-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steady_turns [hPre_steady_turns : Cert.Pre_steady_turns.Facts] (m : (ℓ : Loc Cert.KernelIdeal.nD Cert.KernelIdeal.τ Cert.KernelIdeal.sig) → Buf (Elt Ideal) ℓ) : Prop :=
  ∀ c : Dev Cert.KernelIdeal.nD,
    (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_steady_turns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 = (fun _ => 1#1)

def Pre_KernelIdeal_sinusoids [hPre_sinusoids : Cert.Pre_sinusoids.Facts] (m : (ℓ : Loc Cert.KernelIdeal.nD Cert.KernelIdeal.τ Cert.KernelIdeal.sig) → Buf (Elt Ideal) ℓ) : Prop :=
  ∀ c : Dev Cert.KernelIdeal.nD,
    (Cert.Pre_sinusoids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_sinusoids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steady_turns [hPre_steady_turns : Cert.Pre_steady_turns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_steady_turns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2 = (fun _ => 1#1)

def Pre_ReferenceIdeal_sinusoids [hPre_sinusoids : Cert.Pre_sinusoids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sinusoids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_sinusoids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_steady_turns [hKernelIdeal : Cert.KernelIdeal.Facts] [hPre_steady_turns : Cert.Pre_steady_turns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steady_turns m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sinusoids [hKernelIdeal : Cert.KernelIdeal.Facts] [hPre_sinusoids : Cert.Pre_sinusoids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sinusoids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_steady_turns [hReferenceIdeal : Cert.ReferenceIdeal.Facts] [hPre_steady_turns : Cert.Pre_steady_turns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steady_turns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sinusoids [hReferenceIdeal : Cert.ReferenceIdeal.Facts] [hPre_sinusoids : Cert.Pre_sinusoids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sinusoids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_steady_turns [hKernelIdeal : Cert.KernelIdeal.Facts] [hReferenceIdeal : Cert.ReferenceIdeal.Facts] [hPre_steady_turns : Cert.Pre_steady_turns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steady_turns m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_sinusoids [hKernelIdeal : Cert.KernelIdeal.Facts] [hReferenceIdeal : Cert.ReferenceIdeal.Facts] [hPre_sinusoids : Cert.Pre_sinusoids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sinusoids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_steady_turns : Cert.Pre_steady_turns.Facts) (hPre_sinusoids : Cert.Pre_sinusoids.Facts),
    quiescent_Kernel (hKernel := hKernel)
    ∧ quiescent_KernelIdeal (hKernelIdeal := hKernelIdeal)
    ∧ quiescent_KernelIdeal_pre_steady_turns (hKernelIdeal := hKernelIdeal) (hPre_steady_turns := hPre_steady_turns)
    ∧ quiescent_KernelIdeal_pre_sinusoids (hKernelIdeal := hKernelIdeal) (hPre_sinusoids := hPre_sinusoids)
    ∧ quiescent_ReferenceIdeal (hReferenceIdeal := hReferenceIdeal)
    ∧ quiescent_ReferenceIdeal_pre_steady_turns (hReferenceIdeal := hReferenceIdeal) (hPre_steady_turns := hPre_steady_turns)
    ∧ quiescent_ReferenceIdeal_pre_sinusoids (hReferenceIdeal := hReferenceIdeal) (hPre_sinusoids := hPre_sinusoids)
    ∧ preserves_Kernel_KernelIdeal
    ∧ algebraic_KernelIdeal_ReferenceIdeal_pre_steady_turns (hKernelIdeal := hKernelIdeal) (hReferenceIdeal := hReferenceIdeal) (hPre_steady_turns := hPre_steady_turns)
    ∧ algebraic_KernelIdeal_ReferenceIdeal_pre_sinusoids (hKernelIdeal := hKernelIdeal) (hReferenceIdeal := hReferenceIdeal) (hPre_sinusoids := hPre_sinusoids)
-- ==== Pre_sinusoids.lean ====
abbrev S4x8192x1024 : Shape := ⟨3, ![4, 8192, 1024]⟩
abbrev S1x8192x1024 : Shape := ⟨3, ![1, 8192, 1024]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S1x8192x512 : Shape := ⟨3, ![1, 8192, 512]⟩

class Facts : Prop where
  bcast_S8192_S8192x1_0 : S8192.BroadcastsInDim S8192x1 (![0] : Fin 1 → Fin S8192x1.rank)
  bcast_S_S512 : S_.BroadcastsInDim S512 (![] : Fin 0 → Fin S512.rank)
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  slicesBy_S1x8192x1024_S1x8192x512_0s1_0s1_0s2 : S1x8192x1024.SlicesBy (![0, 0, 0] : Fin 3 → Nat) ![1, 1, 2] S1x8192x512
  shapeCasts_S1x8192x512_S8192x512 : S1x8192x512.ShapeCasts S8192x512
  slicesBy_S1x8192x1024_S1x8192x512_0s1_0s1_1s2 : S1x8192x1024.SlicesBy (![0, 0, 1] : Fin 3 → Nat) ![1, 1, 2] S1x8192x512

variable [Facts]

def fn_part1 {F : FTy → Type} [FloatOps F] (main_v15 : FVec F S8192x512 .f32) (main_v19 : IVec S8192x512 1) (main_v20 : FVec F S1x8192x512 .f32) : IVec S8192x512 1 × IVec S8192x512 1 :=
  let main_v21 : FVec F S8192x512 .f32 := shapeCast S8192x512 main_v20 shapeCasts_S1x8192x512_S8192x512
  let main_v22 : FVec F S8192x512 .f32 := Host.cos main_v15
  let main_v23 : IVec S8192x512 1 := cmpf .oeq main_v21 main_v22
  (main_v19, main_v23)

def fn {F : FTy → Type} [FloatOps F] (main_arg0 : FVec F S4x8192x1024 .f32) (main_arg1 : FVec F S1x8192x1024 .f32) : IVec S8192x512 1 × IVec S8192x512 1 :=
  let main_v0 : IVec S8192 32 := iotaInDim S8192 32 0
  let main_v1 : FVec F S8192 .f32 := sitofp .f32 main_v0
  let main_v2 : FVec F S8192x1 .f32 := broadcastInDim S8192x1 ![0] bcast_S8192_S8192x1_0 main_v1
  let main_v3 : IVec S512 32 := iotaInDim S512 32 0
  let main_c : IVec S_ 32 := constantI S_ 32 2#32
  let main_v4 : IVec S512 32 := broadcastInDim S512 ![] bcast_S_S512 main_c
  let main_v5 : IVec S512 32 := muli main_v4 main_v3
  let main_c_0 : IVec S_ 32 := constantI S_ 32 0#32
  let main_v6 : IVec S512 32 := broadcastInDim S512 ![] bcast_S_S512 main_c_0
  let main_v7 : IVec S512 32 := addi main_v6 main_v5
  let main_v8 : FVec F S512 .f32 := sitofp .f32 main_v7
  let main_cst : FVec F S_ .f32 := constant S_ .f32 0xBC135D8E#32
  let main_v9 : FVec F S512 .f32 := broadcastInDim S512 ![] bcast_S_S512 main_cst
  let main_v10 : FVec F S512 .f32 := mulf main_v8 main_v9
  let main_v11 : FVec F S512 .f32 := Host.exp main_v10
  let main_v12 : FVec F S1x512 .f32 := broadcastInDim S1x512 ![1] bcast_S512_S1x512_1 main_v11
  let main_v13 : FVec F S8192x512 .f32 := broadcastInDim S8192x512 ![0, 1] bcast_S8192x1_S8192x512_0_1 main_v2
  let main_v14 : FVec F S8192x512 .f32 := broadcastInDim S8192x512 ![0, 1] bcast_S1x512_S8192x512_0_1 main_v12
  let main_v15 : FVec F S8192x512 .f32 := mulf main_v13 main_v14
  let main_v16 : FVec F S1x8192x512 .f32 := (Host.slice S1x8192x512 ![0, 0, 0] ![1, 1, 2] · slicesBy_S1x8192x1024_S1x8192x512_0s1_0s1_0s2) main_arg1
  let main_v17 : FVec F S8192x512 .f32 := shapeCast S8192x512 main_v16 shapeCasts_S1x8192x512_S8192x512
  let main_v18 : FVec F S8192x512 .f32 := Host.sin main_v15
  let main_v19 : IVec S8192x512 1 := cmpf .oeq main_v17 main_v18
  let main_v20 : FVec F S1x8192x512 .f32 := (Host.slice S1x8192x512 ![0, 0, 1] ![1, 1, 2] · slicesBy_S1x8192x1024_S1x8192x512_0s1_0s1_1s2) main_arg1
  fn_part1 (F := F) main_v15 main_v19 main_v20
-- ==== Pre_steady_turns.lean ====
abbrev S4x8192x1024 : Shape := ⟨3, ![4, 8192, 1024]⟩
abbrev S1x8192x1024 : Shape := ⟨3, ![1, 8192, 1024]⟩
abbrev S1x8192x512 : Shape := ⟨3, ![1, 8192, 512]⟩
abbrev S8192x512 : Shape := ⟨2, ![8192, 512]⟩
abbrev S1x512 : Shape := ⟨2, ![1, 512]⟩
abbrev S_ : Shape := ⟨0, ![]⟩
abbrev S512 : Shape := ⟨1, ![512]⟩
abbrev S8191x512 : Shape := ⟨2, ![8191, 512]⟩

class Facts : Prop where
  slicesBy_S1x8192x1024_S1x8192x512_0s1_0s1_0s2 : S1x8192x1024.SlicesBy (![0, 0, 0] : Fin 3 → Nat) ![1, 1, 2] S1x8192x512
  shapeCasts_S1x8192x512_S8192x512 : S1x8192x512.ShapeCasts S8192x512
  slicesBy_S1x8192x1024_S1x8192x512_0s1_0s1_1s2 : S1x8192x1024.SlicesBy (![0, 0, 1] : Fin 3 → Nat) ![1, 1, 2] S1x8192x512
  slices_S8192x512_S1x512_1_0 : S8192x512.Slices ![1, 0] S1x512
  bcast_S_S1x512 : S_.BroadcastsInDim S1x512 (![] : Fin 0 → Fin S1x512.rank)
  slices_S8192x512_S1x512_0_0 : S8192x512.Slices ![0, 0] S1x512
  shapeCasts_S1x512_S512 : S1x512.ShapeCasts S512
  bcast_S_S512 : S_.BroadcastsInDim S512 (![] : Fin 0 → Fin S512.rank)
  slices_S8192x512_S8191x512_1_0 : S8192x512.Slices ![1, 0] S8191x512
  slices_S8192x512_S8191x512_0_0 : S8192x512.Slices ![0, 0] S8191x512
  bcast_S1x512_S8191x512_0_1 : S1x512.BroadcastsInDim S8191x512 (![0, 1] : Fin 2 → Fin S8191x512.rank)

variable [Facts]

def fn_part1 {F : FTy → Type} [FloatOps F] (main_v1 : FVec F S8192x512 .f32) (main_v3 : FVec F S8192x512 .f32) (main_v4 : FVec F S1x512 .f32) (main_v5 : FVec F S1x512 .f32) (main_v8 : IVec S1x512 1) (main_v11 : IVec S1x512 1) (main_v15 : IVec S512 1) (main_v19 : IVec S512 1) : IVec S1x512 1 × IVec S1x512 1 × IVec S512 1 × IVec S512 1 × IVec S8191x512 1 × IVec S8191x512 1 :=
  let main_v20 : FVec F S8191x512 .f32 := (extractStridedSlice S8191x512 ![1, 0] · slices_S8192x512_S8191x512_1_0) main_v1
  let main_v21 : FVec F S8191x512 .f32 := (extractStridedSlice S8191x512 ![0, 0] · slices_S8192x512_S8191x512_0_0) main_v1
  let main_v22 : FVec F S8191x512 .f32 := broadcastInDim S8191x512 ![0, 1] bcast_S1x512_S8191x512_0_1 main_v5
  let main_v23 : FVec F S8191x512 .f32 := mulf main_v21 main_v22
  let main_v24 : FVec F S8191x512 .f32 := (extractStridedSlice S8191x512 ![0, 0] · slices_S8192x512_S8191x512_0_0) main_v3
  let main_v25 : FVec F S8191x512 .f32 := broadcastInDim S8191x512 ![0, 1] bcast_S1x512_S8191x512_0_1 main_v4
  let main_v26 : FVec F S8191x512 .f32 := mulf main_v24 main_v25
  let main_v27 : FVec F S8191x512 .f32 := addf main_v23 main_v26
  let main_v28 : IVec S8191x512 1 := cmpf .oeq main_v20 main_v27
  let main_v29 : FVec F S8191x512 .f32 := (extractStridedSlice S8191x512 ![1, 0] · slices_S8192x512_S8191x512_1_0) main_v3
  let main_v30 : FVec F S8191x512 .f32 := (extractStridedSlice S8191x512 ![0, 0] · slices_S8192x512_S8191x512_0_0) main_v3
  let main_v31 : FVec F S8191x512 .f32 := broadcastInDim S8191x512 ![0, 1] bcast_S1x512_S8191x512_0_1 main_v5
  let main_v32 : FVec F S8191x512 .f32 := mulf main_v30 main_v31
  let main_v33 : FVec F S8191x512 .f32 := (extractStridedSlice S8191x512 ![0, 0] · slices_S8192x512_S8191x512_0_0) main_v1
  let main_v34 : FVec F S8191x512 .f32 := broadcastInDim S8191x512 ![0, 1] bcast_S1x512_S8191x512_0_1 main_v4
  let main_v35 : FVec F S8191x512 .f32 := mulf main_v33 main_v34
  let main_v36 : FVec F S8191x512 .f32 := subf main_v32 main_v35
  let main_v37 : IVec S8191x512 1 := cmpf .oeq main_v29 main_v36
  (main_v8, main_v11, main_v15, main_v19, main_v28, main_v37)

def fn {F : FTy → Type} [FloatOps F] (main_arg0 : FVec F S4x8192x1024 .f32) (main_arg1 : FVec F S1x8192x1024 .f32) : IVec S1x512 1 × IVec S1x512 1 × IVec S512 1 × IVec S512 1 × IVec S8191x512 1 × IVec S8191x512 1 :=
  let main_v0 : FVec F S1x8192x512 .f32 := (Host.slice S1x8192x512 ![0, 0, 0] ![1, 1, 2] · slicesBy_S1x8192x1024_S1x8192x512_0s1_0s1_0s2) main_arg1
  let main_v1 : FVec F S8192x512 .f32 := shapeCast S8192x512 main_v0 shapeCasts_S1x8192x512_S8192x512
  let main_v2 : FVec F S1x8192x512 .f32 := (Host.slice S1x8192x512 ![0, 0, 1] ![1, 1, 2] · slicesBy_S1x8192x1024_S1x8192x512_0s1_0s1_1s2) main_arg1
  let main_v3 : FVec F S8192x512 .f32 := shapeCast S8192x512 main_v2 shapeCasts_S1x8192x512_S8192x512
  let main_v4 : FVec F S1x512 .f32 := (extractStridedSlice S1x512 ![1, 0] · slices_S8192x512_S1x512_1_0) main_v1
  let main_v5 : FVec F S1x512 .f32 := (extractStridedSlice S1x512 ![1, 0] · slices_S8192x512_S1x512_1_0) main_v3
  let main_v6 : FVec F S1x512 .f32 := Host.absf main_v4
  let main_cst : FVec F S_ .f32 := constant S_ .f32 0x7F800000#32
  let main_v7 : FVec F S1x512 .f32 := broadcastInDim S1x512 ![] bcast_S_S1x512 main_cst
  let main_v8 : IVec S1x512 1 := cmpf .olt main_v6 main_v7
  let main_v9 : FVec F S1x512 .f32 := Host.absf main_v5
  let main_cst_0 : FVec F S_ .f32 := constant S_ .f32 0x7F800000#32
  let main_v10 : FVec F S1x512 .f32 := broadcastInDim S1x512 ![] bcast_S_S1x512 main_cst_0
  let main_v11 : IVec S1x512 1 := cmpf .olt main_v9 main_v10
  let main_v12 : FVec F S1x512 .f32 := (extractStridedSlice S1x512 ![0, 0] · slices_S8192x512_S1x512_0_0) main_v1
  let main_v13 : FVec F S512 .f32 := shapeCast S512 main_v12 shapeCasts_S1x512_S512
  let main_cst_1 : FVec F S_ .f32 := constant S_ .f32 0x00000000#32
  let main_v14 : FVec F S512 .f32 := broadcastInDim S512 ![] bcast_S_S512 main_cst_1
  let main_v15 : IVec S512 1 := cmpf .oeq main_v13 main_v14
  let main_v16 : FVec F S1x512 .f32 := (extractStridedSlice S1x512 ![0, 0] · slices_S8192x512_S1x512_0_0) main_v3
  let main_v17 : FVec F S512 .f32 := shapeCast S512 main_v16 shapeCasts_S1x512_S512
  let main_cst_2 : FVec F S_ .f32 := constant S_ .f32 0x3F800000#32
  let main_v18 : FVec F S512 .f32 := broadcastInDim S512 ![] bcast_S_S512 main_cst_2
  let main_v19 : IVec S512 1 := cmpf .oeq main_v17 main_v18
  fn_part1 (F := F) main_v1 main_v3 main_v4 main_v5 main_v8 main_v11 main_v15 main_v19
-- ==== Kernel.lean ====
abbrev S4x8192x1024 : Shape := ⟨3, ![4, 8192, 1024]⟩
abbrev S1x8192x1024 : Shape := ⟨3, ![1, 8192, 1024]⟩
abbrev S4x512x1024 : Shape := ⟨3, ![4, 512, 1024]⟩
abbrev S1x512x1024 : Shape := ⟨3, ![1, 512, 1024]⟩
abbrev S512x1024 : Shape := ⟨2, ![512, 1024]⟩
abbrev S8x1024 : Shape := ⟨2, ![8, 1024]⟩
abbrev S1x1024 : Shape := ⟨2, ![1, 1024]⟩
abbrev S512x1023 : Shape := ⟨2, ![512, 1023]⟩
abbrev S512x1 : Shape := ⟨2, ![512, 1]⟩
abbrev S1x1x1024 : Shape := ⟨3, ![1, 1, 1024]⟩
abbrev S1x1023 : Shape := ⟨2, ![1, 1023]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1x8192x1024, .f32⟩
  | .hbm, ⟨2, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S1x512x1024, .f32⟩
  | .local _ .vmem, ⟨3, _⟩ => ⟨S4x512x1024, .f32⟩
  | .local _ .vmem, ⟨4, _⟩ => ⟨S4x512x1024, .f32⟩
  | .local _ .vmem, ⟨5, _⟩ => ⟨S512x1024, .f32⟩
  | .local _ .vmem, ⟨6, _⟩ => ⟨S8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x1024 : Shape := ⟨3, ![4, 8192, 1024]⟩
abbrev S1x8192x1024 : Shape := ⟨3, ![1, 8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x8192x1024, .f32⟩
  | .hbm, ⟨2, _⟩ => ⟨S4x8192x1024, .f32⟩
  | .hbm, ⟨3, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Body.lean ====
/-
  One grid step of the idealized kernel, at any float semantics.

  The kernel carries two scratch buffers from step to step: the staged table block with each (sine, cosine) pair
  swapped, and a buffer of eight rows of which two are used: row 0 is the turn made so far, row 1 the turn of one
  block. This file names those contents and proves what a step makes of them: the first step fills both buffers, every
  step but the last advances row 0, and every step leaves the output block at `outBlock`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.VecWindow
public import Idealize.ShloMosaic.Lib.WritesUnit

@[expose] public section

set_option maxRecDepth 16384

noncomputable section

namespace Cert.KernelIdeal.Turn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## What the buffers hold -/

/-- Row 0 of the eight-row scratch. -/
abbrev row0 : Rect S8x1024 := Rect.unit (s := S8x1024) ![0, 0] S1x1024.size inb_S8x1024_S1x1024_0_0
/-- Row 1 of the eight-row scratch. -/
abbrev row1 : Rect S8x1024 := Rect.unit (s := S8x1024) ![1, 0] S1x1024.size inb_S8x1024_S1x1024_1_0
/-- Row 1 of the staged table block. -/
abbrev peRow1 : Rect S1x512x1024 := Rect.unit (s := S1x512x1024) ![0, 1, 0] S1x1x1024.size inb_S1x512x1024_S1x1x1024_0_1_0
/-- The last row of the staged table block. -/
abbrev peRow511 : Rect S1x512x1024 := Rect.unit (s := S1x512x1024) ![0, 511, 0] S1x1x1024.size inb_S1x512x1024_S1x1x1024_0_511_0

/-- The turn before the first block: angle 0, that is 0 in the even columns and 1 in the odd ones. -/
def noTurn : FVec F S1x1024 .f32 := k0_pay4 k0_pay12

/-- The turn of one block, from the staged table block `pe`: its last row turned once more by its row 1. -/
def blockTurn (pe : Vec F S1x512x1024 .f32) : FVec F S1x1024 .f32 :=
  k0_pay13 (k0_pay9 k0_pay12 (View.ld pe peRow1) (View.ld pe peRow511)) (k0_pay10 (View.ld pe peRow1) (View.ld pe peRow511))
    (k0_pay11 k0_pay12 (View.ld pe peRow1) (View.ld pe peRow511))

/-- The turn before block `n`: `n` block turns. -/
def turn (pe : Vec F S1x512x1024 .f32) : ℕ → FVec F S1x1024 .f32
  | 0 => noTurn
  | n + 1 => k0_pay2 k0_pay12 (turn pe n) (blockTurn pe)

/-- The staged table block with each pair of columns swapped. -/
def swapped (pe : Vec F S1x512x1024 .f32) : FVec F S512x1024 .f32 := k0_pay3 k0_pay12 pe

/-- What a step leaves in the output block: the block of `x` plus the staged table block turned by `rot`. -/
def outBlock (pe : Vec F S1x512x1024 .f32) (rot : FVec F S1x1024 .f32) (x : Vec F S4x512x1024 .f32) : FVec F S4x512x1024 .f32 :=
  k0_pay1 (k0_pay15 rot pe) (k0_pay16 rot (swapped pe)) x

/-- The eight-row scratch holds `rot` in row 0 and `step` in row 1. -/
def Holds (d : Vec F S8x1024 .f32) (rot step : FVec F S1x1024 .f32) : Prop :=
  View.ld d row0 = rot ∧ View.ld d row1 = step

/-! ## Reading rows back -/

/-- A point of row 1 is not in row 0. -/
theorem row1_not_mem_row0 (x : row1.shape.Idx) : row1.emb x ∉ row0.set := by
  rw [Rect.mem_set_unit]
  intro h
  have h0 := (h 0).2
  have e : ((row1.emb x) 0).val = 1 + 1 * (x 0).val := rfl
  rw [e] at h0
  change 1 + 1 * (x 0).val < 0 + 1 at h0
  omega

/-- A point of row 0 is not in row 1. -/
theorem row0_not_mem_row1 (x : row0.shape.Idx) : row0.emb x ∉ row1.set := by
  rw [Rect.mem_set_unit]
  intro h
  have h0 := (h 0).1
  have e : ((row0.emb x) 0).val = 0 + 1 * (x 0).val := rfl
  have hx : (x 0).val < 1 := (x 0).isLt
  rw [e] at h0
  change 1 ≤ 0 + 1 * (x 0).val at h0
  omega

variable {sp : Space} (v : View sig .tc sp S8x1024 .f32)

/-- A row just stored reads as stored. -/
theorem ld_same (f : v.ty.Contents (Elt F)) (r : Rect S8x1024) (w : r.shape.Idx → Elt F .f32) (L : List (View.Piece (Elt F) S8x1024 .f32)) :
    View.ld (v.read (Elt F) (v.writes (Elt F) f (⟨r, w⟩ :: L))) r = w :=
  funext fun x => View.read_writes_cons_emb v f r w L x

/-- A store into row 0 leaves row 1. -/
theorem ld_row1_of_row0 (f : v.ty.Contents (Elt F)) (w : row0.shape.Idx → Elt F .f32) (L : List (View.Piece (Elt F) S8x1024 .f32)) :
    View.ld (v.read (Elt F) (v.writes (Elt F) f (⟨row0, w⟩ :: L))) row1 = View.ld (v.read (Elt F) (v.writes (Elt F) f L)) row1 :=
  funext fun x => by
    have h : row1.emb x ∉ Finset.univ.map row0.emb := by rw [Rect.map_emb_univ]; exact row1_not_mem_row0 x
    show v.read (Elt F) (v.writes (Elt F) f (⟨row0, w⟩ :: L)) (row1.emb x) = v.read (Elt F) (v.writes (Elt F) f L) (row1.emb x)
    rw [View.writes_cons]
    exact View.read_slice_write_of_not_mem _ _ _ _ h

/-- Of two stores, into row 0 and then into row 1, row 0 reads the first. -/
theorem readCov_row0 (w1 : row1.shape.Idx → Elt F .f32) (w0 : row0.shape.Idx → Elt F .f32) :
    v.readCov [⟨row1, w1⟩, ⟨row0, w0⟩] row0.toLoadRect = w0 := by
  rw [View.readCov_eq_canon']
  funext j
  show View.canon [(⟨row1, w1⟩ : View.Piece (Elt F) S8x1024 .f32), ⟨row0, w0⟩] (row0.emb j) = w0 j
  rw [View.canon_cons_of_not_mem (⟨row1, w1⟩ : View.Piece (Elt F) S8x1024 .f32) [⟨row0, w0⟩] (row0_not_mem_row1 j)]
  exact View.canon_cons_emb row0 w0 [] j

/-! ## The three kinds of step -/

/-- The step is the first. -/
abbrev IsFirst (i : grid0.Coords) : Prop := (Scalar.cmpi .ne (Scalar.extui (Scalar.cmpi .eq (BitVec.ofNat 32 (i 0).val) 0#32)) 0#32) = 1#1
/-- Another step follows. -/
abbrev HasNext (i : grid0.Coords) : Prop := (Scalar.cmpi .ne (Scalar.extui (Scalar.cmpi .slt (BitVec.ofNat 32 (i 0).val) 15#32)) 0#32) = 1#1

variable (c : Dev nD) (i : grid0.Coords)
  (arg1 : Memref sig .tc .vmem S4x512x1024 .f32) (harg1 : arg1.IsWhole)
  (arg2 : Memref sig .tc .vmem S1x512x1024 .f32) (harg2 : arg2.IsWhole)
  (arg3 : Memref sig .tc .vmem S4x512x1024 .f32) (harg3 : arg3.IsWhole)
  (arg4 : Memref sig .tc .vmem S512x1024 .f32) (harg4 : arg4.IsWhole)
  (arg5 : Memref sig .tc .vmem S8x1024 .f32) (harg5 : arg5.IsWhole)
  (x : Vec F S4x512x1024 .f32) (pe : Vec F S1x512x1024 .f32)

set_option maxHeartbeats 1000000 in
/-- The first step: from any scratch it leaves the output block unturned, the swapped block, one block turn in row 0
    and in row 1. -/
theorem run_first (h0 : IsFirst i) (h1 : HasNext i) (E : Set ℕ) (K : PUnit → sProp 𝕄) :
    iprop(owns (c : Thread nD τ) arg1 fullShare x ∗ owns (c : Thread nD τ) arg2 fullShare pe ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare pe
            ∗ owns (c : Thread nD τ) arg3 fullShare (outBlock pe (turn pe 0) x) ∗ owns (c : Thread nD τ) arg4 fullShare (swapped pe)
            ∗ (∃ d, ⌜Holds d (turn pe 1) (blockTurn pe)⌝ ∗ owns (c : Thread nD τ) arg5 fullShare d)) -∗ K ⟨⟩))
      ⊢ wp frame (wpE (defs₀ (F := F)) Variants.none c none) E (cc0__add_block i arg1 harg1 arg2 harg2 arg3 harg3 arg4 harg4 arg5 harg5) K := by
  simp only [cc0__add_block_eq_skeleton]; unfold cc0__add_block_skel
  simp only [k0_part2_eq_skeleton, k0_part1_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec (disch := first | sl_exact h0 | sl_exact h1)
  sl_step
  iapply Hk
  have ex : ∀ inb, View.readAt (Elt F) arg1.view (Rect.unit (s := S4x512x1024) ![0, 0, 0] S4x512x1024.size inb).toLoadRect (harg1.unread x) = x :=
    fun inb => (View.readAt_full _ _ inb).trans hf0
  have ep : ∀ inb, View.readAt (Elt F) arg2.view (Rect.unit (s := S1x512x1024) ![0, 0, 0] S1x512x1024.size inb).toLoadRect (harg2.unread pe) = pe :=
    fun inb => (View.readAt_full _ _ inb).trans hf1
  have ep' : ∀ r : Rect S1x512x1024, View.readAt (Elt F) arg2.view r.toLoadRect (harg2.unread pe) = View.ld pe r :=
    fun r => (View.readAt_eq_ld _ _ r).trans (by rw [hf1])
  have e1 := ep' peRow1
  have e511 := ep' peRow511
  have er : run_first.sl.r c arg2 harg2 pe = k0_pay9 k0_pay12 (View.ld pe peRow1) (View.ld pe peRow511) :=
    congrArg₂ (k0_pay9 k0_pay12) e1 e511
  have er1 : run_first.sl.r_1 c arg2 harg2 pe = k0_pay10 (View.ld pe peRow1) (View.ld pe peRow511) :=
    congrArg₂ k0_pay10 e1 e511
  have er2 : run_first.sl.r_2 c arg2 harg2 pe = k0_pay11 k0_pay12 (View.ld pe peRow1) (View.ld pe peRow511) :=
    congrArg₂ (k0_pay11 k0_pay12) e1 e511
  have eb : k0_pay13 (run_first.sl.r c arg2 harg2 pe) (run_first.sl.r_1 c arg2 harg2 pe) (run_first.sl.r_2 c arg2 harg2 pe) = blockTurn pe := by
    rw [er, er1, er2]; rfl
  have e50 : run_first.sl.v50 c arg2 harg2 arg5 pe = blockTurn pe :=
    (View.readCov_cons_toLoadRect _ row1 _ _).trans eb
  have e22 : run_first.sl.v22 c arg2 harg2 arg5 pe = noTurn := readCov_row0 _ _ _
  have es : k0_pay3 k0_pay12 (View.readAt (Elt F) arg2.view (Rect.unit (s := S1x512x1024) ![0, 0, 0] S1x512x1024.size inb_S1x512x1024_S1x512x1024_0_0_0).toLoadRect (harg2.unread pe)) = swapped pe :=
    congrArg (k0_pay3 k0_pay12) (ep _)
  have e38 : run_first.sl.v38 c arg2 harg2 arg4 pe = swapped pe :=
    (View.readCov_full _ inb_S512x1024_S512x1024_0_0 inb_S512x1024_S512x1024_0_0 _ []).trans es
  have e3 : run_first.sl.r_3 c arg2 harg2 arg5 pe = k0_pay15 noTurn pe := congrArg₂ k0_pay15 e22 (ep _)
  have e4 : run_first.sl.r_4 c arg2 harg2 arg4 arg5 pe = k0_pay16 noTurn (swapped pe) := congrArg₂ k0_pay16 e22 e38
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [e3, e4]
    exact (View.read_writes_full _ _ inb_S4x512x1024_S4x512x1024_0_0_0 _ []).trans (congrArg (k0_pay1 _ _) (ex _))
  isplitl [HS0]
  · iexists _; isplitr
    swap; · iexact HS0
    ipureintro
    exact (View.read_writes_full _ _ inb_S512x1024_S512x1024_0_0 _ []).trans es
  iexists _; isplitr
  swap
  · iexists _; isplitr
    swap; · iexact HS1
    ipureintro; rfl
  ipureintro
  constructor
  · refine (ld_same _ _ row0 _ _).trans ?_
    exact congrArg₂ (k0_pay2 k0_pay12) e22 e50
  · refine (ld_row1_of_row0 _ _ _ _).trans ?_
    exact (ld_same _ _ row1 _ _).trans eb

set_option maxHeartbeats 1000000 in
/-- A step between the first and the last: it leaves the output block turned by row 0, and advances row 0 by row 1. -/
theorem run_next (h0 : ¬IsFirst i) (h1 : HasNext i) (rot step : FVec F S1x1024 .f32) (E : Set ℕ) (K : PUnit → sProp 𝕄) :
    iprop(owns (c : Thread nD τ) arg1 fullShare x ∗ owns (c : Thread nD τ) arg2 fullShare pe ∗ (∃ d, owns (c : Thread nD τ) arg3 fullShare d)
        ∗ owns (c : Thread nD τ) arg4 fullShare (swapped pe) ∗ (∃ d, ⌜Holds d rot step⌝ ∗ owns (c : Thread nD τ) arg5 fullShare d)
        ∗ (iprop(owns (c : Thread nD τ) arg1 fullShare x ∗ owns (c : Thread nD τ) arg2 fullShare pe
            ∗ owns (c : Thread nD τ) arg3 fullShare (outBlock pe rot x) ∗ owns (c : Thread nD τ) arg4 fullShare (swapped pe)
            ∗ (∃ d, ⌜Holds d (k0_pay2 k0_pay12 rot step) step⌝ ∗ owns (c : Thread nD τ) arg5 fullShare d)) -∗ K ⟨⟩))
      ⊢ wp frame (wpE (defs₀ (F := F)) Variants.none c none) E (cc0__add_block i arg1 harg1 arg2 harg2 arg3 harg3 arg4 harg4 arg5 harg5) K := by
  simp only [cc0__add_block_eq_skeleton]; unfold cc0__add_block_skel
  simp only [k0_part2_eq_skeleton, k0_part1_eq_skeleton]
  unfold owns
  iintro ⟨⟨%f0, %hf0, H0⟩, ⟨%f1, %hf1, H1⟩, ⟨%d2, %f2, -, H2⟩, ⟨%fs0, %hfs0, HS0⟩, ⟨%ds1, %hd, %fs1, %hfs1, HS1⟩, Hk⟩
  obtain rfl := harg1.eq_unread hf0; obtain rfl := harg2.eq_unread hf1; obtain rfl := harg4.eq_unread hfs0; obtain rfl := harg5.eq_unread hfs1
  sl_exec (disch := first | sl_exact h0 | sl_exact h1)
  sl_step
  iapply Hk
  have ex : View.readAt (Elt F) arg1.view (Rect.unit (s := S4x512x1024) ![0, 0, 0] S4x512x1024.size inb_S4x512x1024_S4x512x1024_0_0_0).toLoadRect (harg1.unread x) = x :=
    (View.readAt_full _ _ _).trans hf0
  have ep : View.readAt (Elt F) arg2.view (Rect.unit (s := S1x512x1024) ![0, 0, 0] S1x512x1024.size inb_S1x512x1024_S1x512x1024_0_0_0).toLoadRect (harg2.unread pe) = pe :=
    (View.readAt_full _ _ _).trans hf1
  have es : View.readAt (Elt F) arg4.view (Rect.unit (s := S512x1024) ![0, 0] S512x1024.size inb_S512x1024_S512x1024_0_0).toLoadRect (harg4.unread (swapped pe)) = swapped pe :=
    (View.readAt_full _ _ _).trans hfs0
  have e0 : View.readAt (Elt F) arg5.view row0.toLoadRect (harg5.unread ds1) = rot :=
    (View.readAt_eq_ld _ _ row0).trans ((congrArg (View.ld · row0) hfs1).trans hd.1)
  have e1 : View.readAt (Elt F) arg5.view row1.toLoadRect (harg5.unread ds1) = step :=
    (View.readAt_eq_ld _ _ row1).trans ((congrArg (View.ld · row1) hfs1).trans hd.2)
  have e3 : run_next.sl.r_1 c arg2 harg2 arg5 harg5 pe ds1 = k0_pay15 rot pe := congrArg₂ k0_pay15 e0 ep
  have e4 : run_next.sl.r_2 c arg4 harg4 arg5 harg5 pe ds1 = k0_pay16 rot (swapped pe) := congrArg₂ k0_pay16 e0 es
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [e3, e4]
    exact (View.read_writes_full _ _ inb_S4x512x1024_S4x512x1024_0_0_0 _ []).trans (congrArg (k0_pay1 _ _) ex)
  isplitl [HS0]
  · iexists _; isplitr; · ipureintro; exact hfs0
    iexact HS0
  iexists _; isplitr
  swap
  · iexists _; isplitr
    swap; · iexact HS1
    ipureintro; rfl
  ipureintro
  constructor
  · refine (ld_same _ _ row0 _ _).trans ?_
    exact congrArg₂ (k0_pay2 k0_pay12) e0 e1
  · refine (ld_row1_of_row0 _ _ _ _).trans ?_
    rw [View.writes_nil]
    exact e1

set_option maxHeartbeats 1000000 in
/-- The last step: it leaves the output block turned by row 0, and the scratch as it was. -/
theorem run_last (h0 : ¬IsFirst i) (h1 : ¬HasNext i) (rot step : FVec F S1x1024 .f32) (E : Set ℕ) (K : PUnit → sProp 𝕄) :
    iprop(owns (c : Thread nD τ) arg1 fullShare x ∗ owns (c : Thread nD τ) arg2 fullShare pe ∗ (∃ d, owns (c : Thread nD τ) arg3 fullShare d)
        ∗ owns (c : Thread nD τ) arg4 fullShare (swapped pe) ∗ (∃ d, ⌜Holds d rot step⌝ ∗ owns (c : Thread nD τ) arg5 fullShare d)
        ∗ (iprop(owns (c : Thread nD τ) arg1 fullShare x ∗ owns (c : Thread nD τ) arg2 fullShare pe
            ∗ owns (c : Thread nD τ) arg3 fullShare (outBlock pe rot x) ∗ owns (c : Thread nD τ) arg4 fullShare (swapped pe)
            ∗ (∃ d, ⌜Holds d rot step⌝ ∗ owns (c : Thread nD τ) arg5 fullShare d)) -∗ K ⟨⟩))
      ⊢ wp frame (wpE (defs₀ (F := F)) Variants.none c none) E (cc0__add_block i arg1 harg1 arg2 harg2 arg3 harg3 arg4 harg4 arg5 harg5) K := by
  simp only [cc0__add_block_eq_skeleton]; unfold cc0__add_block_skel
  simp only [k0_part2_eq_skeleton, k0_part1_eq_skeleton]
  unfold owns
  iintro ⟨⟨%f0, %hf0, H0⟩, ⟨%f1, %hf1, H1⟩, ⟨%d2, %f2, -, H2⟩, ⟨%fs0, %hfs0, HS0⟩, ⟨%ds1, %hd, %fs1, %hfs1, HS1⟩, Hk⟩
  obtain rfl := harg1.eq_unread hf0; obtain rfl := harg2.eq_unread hf1; obtain rfl := harg4.eq_unread hfs0; obtain rfl := harg5.eq_unread hfs1
  sl_exec (disch := first | sl_exact h0 | sl_exact h1)
  sl_step
  iapply Hk
  have ex : View.readAt (Elt F) arg1.view (Rect.unit (s := S4x512x1024) ![0, 0, 0] S4x512x1024.size inb_S4x512x1024_S4x512x1024_0_0_0).toLoadRect (harg1.unread x) = x :=
    (View.readAt_full _ _ _).trans hf0
  have ep : View.readAt (Elt F) arg2.view (Rect.unit (s := S1x512x1024) ![0, 0, 0] S1x512x1024.size inb_S1x512x1024_S1x512x1024_0_0_0).toLoadRect (harg2.unread pe) = pe :=
    (View.readAt_full _ _ _).trans hf1
  have es : View.readAt (Elt F) arg4.view (Rect.unit (s := S512x1024) ![0, 0] S512x1024.size inb_S512x1024_S512x1024_0_0).toLoadRect (harg4.unread (swapped pe)) = swapped pe :=
    (View.readAt_full _ _ _).trans hfs0
  have e0 : View.readAt (Elt F) arg5.view row0.toLoadRect (harg5.unread ds1) = rot :=
    (View.readAt_eq_ld _ _ row0).trans ((congrArg (View.ld · row0) hfs1).trans hd.1)
  have e3 : run_last.sl.r_1 c arg2 harg2 arg5 harg5 pe ds1 = k0_pay15 rot pe := congrArg₂ k0_pay15 e0 ep
  have e4 : run_last.sl.r_2 c arg4 harg4 arg5 harg5 pe ds1 = k0_pay16 rot (swapped pe) := congrArg₂ k0_pay16 e0 es
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [e3, e4]
    exact (View.read_writes_full _ _ inb_S4x512x1024_S4x512x1024_0_0_0 _ []).trans (congrArg (k0_pay1 _ _) ex)
  isplitl [HS0]
  · iexists _; isplitr; · ipureintro; exact hfs0
    iexact HS0
  iexists _; isplitr
  swap
  · iexists _; isplitr
    swap; · iexact HS1
    ipureintro; rfl
  ipureintro
  rw [hfs1]
  exact hd

end Cert.KernelIdeal.Turn

end
-- ==== Proof.Steps.lean ====
/-
  The sixteen grid steps of the idealized kernel, at any float semantics: the scratch between the steps, the step
  proved at every point, and the whole run — it terminates, every array of the pipeline ends at what the steps make of
  it, and every semaphore counter ends at zero.
-/
module

public import proofs.«01_k».proof.Proof.Body
public import Idealize.ShloMosaic.Lib.Claim

@[expose] public section

set_option maxRecDepth 16384

noncomputable section

namespace Cert.KernelIdeal.Turn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The steps -/

/-- The first step is step 0. -/
theorem isFirst_iff : ∀ t : Fin cfg0.N, IsFirst (grid0.coords t) ↔ t.val = 0 :=
  (by decide +kernel : ∀ t : Fin grid0.N, IsFirst (grid0.coords t) ↔ t.val = 0)
/-- Another step follows every step before step 15. -/
theorem hasNext_iff : ∀ t : Fin cfg0.N, HasNext (grid0.coords t) ↔ t.val < 15 :=
  (by decide +kernel : ∀ t : Fin grid0.N, HasNext (grid0.coords t) ↔ t.val < 15)

/-- The table block the pipeline stages: the same one, rows 0 to 511, at every step. -/
def peBlk (c : Dev nD) : Vec F S1x512x1024 .f32 := iblk m c 1 t0_0
/-- The staged table block at step `t` is that one. -/
theorem iblk_pe (c : Dev nD) (t : Fin cfg0.N) : iblk m c 1 t = peBlk m c := rfl
/-- The block of `x` at step `t`. -/
def xBlk (c : Dev nD) (t : Fin cfg0.N) : Vec F S4x512x1024 .f32 := iblk m c 0 t

/-- The two scratch buffers. -/
abbrev scM0_0 : Memref sig .tc .vmem S512x1024 .f32 := Memref.whole cc0_scratch0
abbrev scM0_1 : Memref sig .tc .vmem S8x1024 .f32 := Memref.whole cc0_scratch1

/-- What the launch hands over and takes back: both scratch buffers at some contents, and the random generator's
    register. -/
theorem loose_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The scratch before step `n`: anything before the first; from then on the swapped table block, the turn made so far
    (15 block turns at most) in row 0 and the turn of one block in row 1. -/
def inv (c : Dev nD) : ℕ → sProp 𝕄
  | 0 => Pipeline.ΦA spec0 c
  | n + 1 => iprop(iprop(owns (c : Thread nD τ) scM0_0 fullShare (swapped (peBlk m c))
      ∗ (∃ d, ⌜Holds d (turn (peBlk m c) (min (n + 1) 15)) (blockTurn (peBlk m c))⌝ ∗ owns (c : Thread nD τ) scM0_1 fullShare d))
      ∗ (∃ r, prngReg c r))

/-- The scratch before every step but the first. -/
theorem inv_step (c : Dev nD) (n : ℕ) :
    inv m c (n + 1) = iprop(iprop(owns (c : Thread nD τ) scM0_0 fullShare (swapped (peBlk m c))
      ∗ (∃ d, ⌜Holds d (turn (peBlk m c) (min (n + 1) 15)) (blockTurn (peBlk m c))⌝ ∗ owns (c : Thread nD τ) scM0_1 fullShare d))
      ∗ (∃ r, prngReg c r)) := rfl

/-- The pipeline's data on core `c`: the arrays as launched; after step `t` the two inputs' blocks in place and the
    output block turned by `t` block turns; the scratch as in `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (peBlk m c) (turn (peBlk m c) t.val) (xBlk m c t)
  Φ t := inv m c t.val
  q _ := fullShare
  owed _ := 0

theorem A_eq (c : Dev nD) (w : Fin cfg0.W) : (dats m 0 c).A w = V m c (Pipeline.arrRef spec0 w) := by
  dsimp only [dats]
theorem after_x (c : Dev nD) (t : Fin cfg0.N) : (dats m 0 c).after 0 t = xBlk m c t := by dsimp only [dats]; rfl
theorem after_pe (c : Dev nD) (t : Fin cfg0.N) : (dats m 0 c).after 1 t = peBlk m c := by dsimp only [dats]; rfl
theorem after_out (c : Dev nD) (t : Fin cfg0.N) :
    (dats m 0 c).after 2 t = outBlock (peBlk m c) (turn (peBlk m c) t.val) (xBlk m c t) := by dsimp only [dats]
/-- An input's staging buffer holds its block when a step begins. -/
theorem before_x (c : Dev nD) (t : Fin cfg0.N) (d) : (dats m 0 c).before 0 t d = xBlk m c t :=
  before0_0_of m (dats m 0 c) (A_eq m c 0) (after_x m c) t d
theorem before_pe (c : Dev nD) (t : Fin cfg0.N) (d) : (dats m 0 c).before 1 t d = peBlk m c :=
  before0_1_of m (dats m 0 c) (A_eq m c 1) (after_pe m c) t d

/-! ## One step -/

/-- Each operand's staging buffer at step `t`. -/
abbrev stX (t : Fin cfg0.N) : Memref sig .tc .vmem S4x512x1024 .f32 := win0_0.stage (cfg0.slots t 0)
abbrev stPe (t : Fin cfg0.N) : Memref sig .tc .vmem S1x512x1024 .f32 := win0_1.stage (cfg0.slots t 1)
abbrev stOut (t : Fin cfg0.N) : Memref sig .tc .vmem S4x512x1024 .f32 := win0_2.stage (cfg0.slots t 2)

/-- What step `t` starts from. -/
def stepPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stPe t) fullShare ((dats m 0 c).before 1 t d))
    ∗ (∃ d, owns (c : Thread nD τ) (stOut t) fullShare ((dats m 0 c).before 2 t d)))
/-- What step `t` leaves. -/
def stepPost (c : Dev nD) (t : Fin cfg0.N) : sProp 𝕄 :=
  iprop((dats m 0 c).Φ t.succ ∗ (dats m 0 c).owesAt () t.succ
    ∗ owns (c : Thread nD τ) (stX t) fullShare ((dats m 0 c).after 0 t)
    ∗ owns (c : Thread nD τ) (stPe t) fullShare ((dats m 0 c).after 1 t)
    ∗ owns (c : Thread nD τ) (stOut t) fullShare ((dats m 0 c).after 2 t))

theorem inv_castSucc (c : Dev nD) (t : Fin cfg0.N) : (dats m 0 c).Φ t.castSucc = inv m c t.val := rfl
theorem inv_succ (c : Dev nD) (t : Fin cfg0.N) : (dats m 0 c).Φ t.succ = inv m c (t.val + 1) := rfl

set_option maxHeartbeats 1600000 in
/-- Every step runs from what it starts from to what it leaves. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_x, before_pe]
  rw [show (dats m 0 c).owesAt () t.succ = (dats m 0 c).owesAt () t.castSucc from rfl, after_x, after_pe, after_out,
    inv_castSucc, inv_succ]
  have hN : t.val < 16 := lt_of_lt_of_eq t.isLt (show cfg0.N = 16 from N_0)
  rcases Nat.eq_zero_or_pos t.val with hz | hz
  · rw [hz, show inv m c 0 = Pipeline.ΦA spec0 c from rfl, loose_eq, inv_step]
    iintro ⟨⟨⟨HS0, HS1⟩, Hg⟩, Ho, ⟨%d0, H0⟩, ⟨%d1, H1⟩, ⟨%d2, H2⟩⟩
    iapply (run_first c (grid0.coords t) _ _ _ _ _ _ _ _ _ _ (xBlk m c t) (peBlk m c) ((isFirst_iff t).mpr hz) ((hasNext_iff t).mpr (by omega)) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [hn, inv_step, inv_step, show min (n + 1) 15 = n + 1 by omega]
    by_cases h1 : t.val < 15
    · rw [show min (n + 1 + 1) 15 = n + 1 + 1 by omega]
      iintro ⟨⟨⟨HS0, HS1⟩, Hg⟩, Ho, ⟨%d0, H0⟩, ⟨%d1, H1⟩, ⟨%d2, H2⟩⟩
      iapply (run_next c (grid0.coords t) _ _ _ _ _ _ _ _ _ _ (xBlk m c t) (peBlk m c) (fun h => by have := (isFirst_iff t).mp h; omega) ((hasNext_iff t).mpr h1) (turn (peBlk m c) (n + 1)) (blockTurn (peBlk m c)) Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexact H2
    · rw [show min (n + 1 + 1) 15 = n + 1 by omega]
      iintro ⟨⟨⟨HS0, HS1⟩, Hg⟩, Ho, ⟨%d0, H0⟩, ⟨%d1, H1⟩, ⟨%d2, H2⟩⟩
      iapply (run_last c (grid0.coords t) _ _ _ _ _ _ _ _ _ _ (xBlk m c t) (peBlk m c) (fun h => by have := (isFirst_iff t).mp h; omega) (fun h => h1 ((hasNext_iff t).mp h)) (turn (peBlk m c) (n + 1)) (blockTurn (peBlk m c)) Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexact H2

/-! ## The run -/

/-- The pipeline's body table at step `t` is the kernel body on that step's staging buffers. -/
theorem defs₀_at (t : Fin cfg0.N) : defs₀ (F := F) .tc cfg0.body (cfg0.bodyArgs t (cfg0.slots t)) = bodyAt0 t := by
  unfold defs₀; rw [Defs.onTc_tc]

/-- Every step meets what the pipeline asks of it. -/
theorem obligation (c : Dev nD) : BodyObligation (dats (F := F) m 0 c) (defs₀ (F := F)) Variants.none () Set.univ := fun t => by
  rw [bigSep_W0, bigSep_W0, defs₀_at]
  exact triple_restated (step_sound m c t) rfl .rfl fun _ => .rfl

/-- The scratch as launched is the scratch before step 0. -/
theorem inv_in (c : Dev nD) : Pipeline.ΦA spec0 c ⊢ (dats m 0 c).Φ 0 := Idealize.SL.BI.Entails.refl _

/-- The scratch after the last step is scratch at some contents. -/
theorem inv_out (c : Dev nD) : (dats m 0 c).Φ (Fin.last cfg0.N) ⊢ Pipeline.ΦA spec0 c := by
  rw [show (dats m 0 c).Φ (Fin.last cfg0.N) = inv m c (15 + 1) from rfl, inv_step, loose_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
set_option maxHeartbeats 800000 in
/-- The whole run: every array of the pipeline ends at what the steps make of it, and every semaphore counter at
    zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The run without the counters. -/
theorem run : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.KernelIdeal.Turn

end
-- ==== Proof.Same.lean ====
/-
  The kernel as compiled and the idealized kernel are one text under two names: no operation of the kernel is one the
  idealization rewrites. So the two body tables are equal, and what is proved of the idealized text at any float
  semantics is proved of the compiled one.
-/
module

public import proofs.«01_k».proof.Kernel
public import proofs.«01_k».proof.Proof.Gen.Kernel
public import proofs.«01_k».proof.Proof.Steps

@[expose] public section

noncomputable section

namespace Cert.Kernel.Same

open Idealize.ShloMosaic Idealize.ShloMosaic.TcCoe Idealize.SL.Sem

variable {F : FTy → Type} [FloatOps F]

/-- The kernel bodies' tables are equal: there is one body, and on it the texts agree. -/
theorem defs₀_same : Cert.Kernel.defs₀ (F := F) = Cert.KernelIdeal.defs₀ (F := F) :=
  congrArg Defs.onTc (funext fun l => funext fun a => by
    obtain rfl : l = 0 := Subsingleton.elim (α := Fin 1) _ _
    obtain ⟨t, s⟩ := a
    exact congrFun rfl _)

/-- So are the tables with the pipeline in them. -/
theorem defs_same : Cert.Kernel.defs (F := F) = Cert.KernelIdeal.defs (F := F) :=
  congrArg (Pipeline.defs Cert.KernelIdeal.pcfgs) defs₀_same

/-- The compiled kernel's frame: the argument arrays end unchanged and every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (congrArg (fun d => θ_run d (onTc (τ := τ) (main (F := F))) ⟨m, fun _ => 0, ρ⟩ _) defs_same).mpr
    (Cert.KernelIdeal.Turn.frame (F := F) m ρ)

end Cert.Kernel.Same

end
-- ==== Proof.Result.lean ====
/-
  The kernel's result array, element by element: row `512 t + r` of the result is row `r` of what step `t` leaves in the
  output block, and that block is computed from rows `512 t` on of `x` and the first 512 rows of the table.
-/
module

public import proofs.«01_k».proof.Proof.Steps
public import Idealize.ShloMosaic.Lib.Pipeline.Value
public import Idealize.ShloMosaic.Lib.ValueIdx

@[expose] public section

set_option maxRecDepth 16384

noncomputable section

namespace Cert.KernelIdeal.Turn

open Idealize.ShloMosaic Idealize.ShloMosaic.TcCoe Idealize.ShloMosaic.ValueIdx Idealize.SL.Sem
open Cert.KernelIdeal.Gen

variable {F : FTy → Type} [FloatOps F]
variable (m : (ℓ : Loc nD τ sig) → Buf (Elt F) ℓ) (ρ : Dev nD → PrngReg)

/-- Where the two moving windows stand at step `t`: on the rows of block `t`, all four batches, all columns. -/
theorem index_x : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index_out : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
/-- The table's window stands on the first rows. -/
theorem index_pe : win0_1.index t0_0 0 = 0 ∧ win0_1.index t0_0 1 = 0 ∧ win0_1.index t0_0 2 = 0 := by decide +kernel

/-- Row `r` of block `t`. -/
def rowOf (t : Fin 16) (r : Fin 512) : Fin 8192 := ⟨512 * t.val + r.val, by omega⟩

/-- Every row is a row of a block. -/
theorem row_cases (n : Fin 8192) : ∃ t r, n = rowOf t r :=
  ⟨⟨n.val / 512, by omega⟩, ⟨n.val % 512, by omega⟩, Fin.ext (by show n.val = 512 * (n.val / 512) + n.val % 512; omega)⟩

/-- The block of `x` at step `t` is rows `512 t` on of `x`. -/
theorem xBlk_apply (c : Dev nD) (t : Fin 16) (b : Fin 4) (r : Fin 512) (col : Fin 1024) :
    xBlk m c t (ix3 b r col) = m ((c : Thread nD τ).loc main_arg0) (ix3 b (rowOf t r) col) := by
  obtain ⟨h0, h1, h2⟩ := index_x t
  refine (congrArg (V m c main_arg0) (funext fun a => Fin.ext ?_)).trans (congrFun (V_main_arg0 m c) _)
  match a with
  | ⟨0, _⟩ => show win0_0.index t 0 * 4 + 1 * b.val = b.val; rw [h0]; omega
  | ⟨1, _⟩ => show win0_0.index t 1 * 512 + 1 * r.val = 512 * t.val + r.val; rw [h1]; omega
  | ⟨2, _⟩ => show win0_0.index t 2 * 1024 + 1 * col.val = col.val; rw [h2]; omega

/-- The staged table block is the table's first 512 rows. -/
theorem peBlk_apply (c : Dev nD) (r : Fin 512) (col : Fin 1024) :
    peBlk m c (ix3 (0 : Fin 1) r col) = m ((c : Thread nD τ).loc main_arg1) (ix3 (0 : Fin 1) (⟨r.val, by omega⟩ : Fin 8192) col) := by
  obtain ⟨h0, h1, h2⟩ := index_pe
  refine (congrArg (V m c main_arg1) (funext fun a => Fin.ext ?_)).trans (congrFun (V_main_arg1 m c) _)
  match a with
  | ⟨0, _⟩ => show win0_1.index t0_0 0 * 1 + 1 * 0 = 0; rw [h0]
  | ⟨1, _⟩ => show win0_1.index t0_0 1 * 512 + 1 * r.val = r.val; rw [h1]; omega
  | ⟨2, _⟩ => show win0_1.index t0_0 2 * 1024 + 1 * col.val = col.val; rw [h2]; omega

/-! ## The array the output window leaves -/

/-- Two steps' output blocks share no element. -/
theorem out_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    rw [← (index_out t).2.1, ← (index_out t').2.1]; exact congrFun h 1))

/-- The result array. -/
def result (c : Dev nD) : Buf (Elt F) ((c : Thread nD τ).loc main_v0) := (dats m 0 c).arrAt 2 cfg0.N

/-- Block `t` of the result is what step `t` leaves in the output block. -/
theorem result_apply (c : Dev nD) (t : Fin 16) (b : Fin 4) (r : Fin 512) (col : Fin 1024) :
    result m c (ix3 b (rowOf t r) col) = outBlock (peBlk m c) (turn (peBlk m c) t.val) (xBlk m c t) (ix3 b r col) := by
  have h : ((cfg0.win 2).blk t).view.read (Elt F) (result m c) = (dats m 0 c).flushed 2 t :=
    (dats m 0 c).read_blk_arrAt_eq_flushed 2 out_disjoint cfg0.N t t.isLt (flush0_2 t)
  have e : (dats m 0 c).flushed 2 t = (cfg0.win 2).cut (grid0.coords t) (outBlock (peBlk m c) (turn (peBlk m c) t.val) (xBlk m c t)) := by
    exact congrArg ((cfg0.win 2).cut (grid0.coords t)) (after_out m c t)
  rw [e] at h
  obtain ⟨h0, h1, h2⟩ := index_out t
  refine (congrArg (result m c) (funext fun a => Fin.ext ?_)).trans (congrFun h (ix3 b r col))
  match a with
  | ⟨0, _⟩ => show b.val = win0_2.index t 0 * 4 + 1 * b.val; rw [h0]; omega
  | ⟨1, _⟩ => show 512 * t.val + r.val = win0_2.index t 1 * 512 + 1 * r.val; rw [h1]; omega
  | ⟨2, _⟩ => show col.val = win0_2.index t 2 * 1024 + 1 * col.val; rw [h2]; omega

/-- The run: the result array ends at `result`, the arguments unchanged. -/
theorem run_result : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run m ρ)

end Cert.KernelIdeal.Turn

end
-- ==== Proof.Columns.lean ====
/-
  The columns in pairs: pair `k` has its sine in column `2 k` and its cosine in column `2 k + 1`. The kernel finds the
  even columns with a mask, and swaps the two columns of every pair by choosing, at each column, between the block
  rolled one column left and the block rolled one column right.
-/
module

public import proofs.«01_k».proof.Proof.Gen.KernelIdeal.Skeleton
public import Idealize.ShloMosaic.Lib.ValueLayout
public import Idealize.ShloMosaic.Lib.WordCmp

@[expose] public section

set_option maxRecDepth 16384

noncomputable section

namespace Cert.KernelIdeal.Turn

open Idealize.ShloMosaic Idealize.ShloMosaic.ValueIdx
open Cert.KernelIdeal.Gen

/-- The column of pair `k`'s sine. -/
def evenCol (k : Fin 512) : Fin 1024 := ⟨2 * k.val, by omega⟩
/-- The column of pair `k`'s cosine. -/
def oddCol (k : Fin 512) : Fin 1024 := ⟨2 * k.val + 1, by omega⟩

/-- Every column is one of the two. -/
theorem col_cases (c : Fin 1024) : (∃ k, c = evenCol k) ∨ ∃ k, c = oddCol k := by
  rcases Nat.even_or_odd' c.val with ⟨k, h | h⟩
  · exact .inl ⟨⟨k, by omega⟩, Fin.ext h⟩
  · exact .inr ⟨⟨k, by omega⟩, Fin.ext h⟩

/-- The mask says which columns are even. -/
theorem mask_apply : ∀ c : Fin 1024, k0_pay12 (ix2 (0 : Fin 1) c) = BitVec.ofBool (decide (c.val % 2 = 0)) := by
  decide +kernel

theorem mask_even (k : Fin 512) : k0_pay12 (ix2 (0 : Fin 1) (evenCol k)) = 1#1 := by
  rw [mask_apply, show decide ((evenCol k).val % 2 = 0) = true from decide_eq_true (by simp [evenCol])]; rfl

theorem mask_odd (k : Fin 512) : k0_pay12 (ix2 (0 : Fin 1) (oddCol k)) = 0#1 := by
  rw [mask_apply, show decide ((oddCol k).val % 2 = 0) = false from decide_eq_false (by simp [oddCol])]; rfl

section Roll

variable {α : Type} {n : ℕ} (x : (⟨2, ![n, 1024]⟩ : Shape).Idx → α)
  (h1 : (⟨2, ![n, 1024]⟩ : Shape).Slices ![0, 1] ⟨2, ![n, 1023]⟩) (h2 : (⟨2, ![n, 1024]⟩ : Shape).Slices ![0, 0] ⟨2, ![n, 1]⟩)
  (h3 : (⟨2, ![n, 1024]⟩ : Shape).Slices ![0, 1023] ⟨2, ![n, 1]⟩) (h4 : (⟨2, ![n, 1024]⟩ : Shape).Slices ![0, 0] ⟨2, ![n, 1023]⟩)
  (hl : Shape.Concatenates [⟨2, ![n, 1023]⟩, ⟨2, ![n, 1]⟩] ⟨2, ![n, 1024]⟩ 1)
  (hr : Shape.Concatenates [⟨2, ![n, 1]⟩, ⟨2, ![n, 1023]⟩] ⟨2, ![n, 1024]⟩ 1)

/-- A block rolled one column left: its columns from the first on, then its column 0. -/
abbrev rollLeft : (⟨2, ![n, 1024]⟩ : Shape).Idx → α :=
  concatenate ⟨2, ![n, 1024]⟩ 1 [⟨⟨2, ![n, 1023]⟩, extractStridedSlice ⟨2, ![n, 1023]⟩ ![0, 1] x h1⟩,
    ⟨⟨2, ![n, 1]⟩, extractStridedSlice ⟨2, ![n, 1]⟩ ![0, 0] x h2⟩] hl
/-- A block rolled one column right: its last column, then its columns up to that. -/
abbrev rollRight : (⟨2, ![n, 1024]⟩ : Shape).Idx → α :=
  concatenate ⟨2, ![n, 1024]⟩ 1 [⟨⟨2, ![n, 1]⟩, extractStridedSlice ⟨2, ![n, 1]⟩ ![0, 1023] x h3⟩,
    ⟨⟨2, ![n, 1023]⟩, extractStridedSlice ⟨2, ![n, 1023]⟩ ![0, 0] x h4⟩] hr

/-- Rolled left, an even column holds its odd partner. -/
theorem rollLeft_even (r : Fin n) (k : Fin 512) : rollLeft x h1 h2 hl (ix2 r (evenCol k)) = x (ix2 r (oddCol k)) := by
  refine (concatenate_pair_apply_left (t := ⟨2, ![n, 1024]⟩) (s₁ := ⟨2, ![n, 1023]⟩) (s₂ := ⟨2, ![n, 1]⟩) (1 : Fin 2) _ _ hl _ rfl (ix2 r ⟨2 * k.val, by omega⟩) fun b => ?_).trans
    (slice2_axis1_apply 1 x h1 r _ (oddCol k) (Nat.add_comm _ _))
  match b with
  | ⟨0, _⟩ => rfl
  | ⟨1, _⟩ => rfl

/-- Rolled right, an odd column holds its even partner. -/
theorem rollRight_odd (r : Fin n) (k : Fin 512) : rollRight x h3 h4 hr (ix2 r (oddCol k)) = x (ix2 r (evenCol k)) := by
  refine (concatenate_pair_apply_right (t := ⟨2, ![n, 1024]⟩) (s₁ := ⟨2, ![n, 1]⟩) (s₂ := ⟨2, ![n, 1023]⟩) (1 : Fin 2) _ _ hr _ rfl rfl (ix2 r ⟨2 * k.val, by omega⟩) (fun b => ?_) rfl).trans
    (slice2_axis1_apply 0 x h4 r _ (evenCol k) (Nat.zero_add _).symm)
  match b with
  | ⟨0, _⟩ => exact fun _ => rfl
  | ⟨1, _⟩ => exact fun h => absurd rfl h

variable (M : IVec ⟨2, ![n, 1024]⟩ 1) (hM : ∀ r c, M (ix2 r c) = k0_pay12 (ix2 (0 : Fin 1) c))
include hM

/-- Chosen by the mask, the two rolls swap the pair: the even column holds the odd one's element … -/
theorem swap_even (r : Fin n) (k : Fin 512) :
    select M (rollLeft x h1 h2 hl) (rollRight x h3 h4 hr) (ix2 r (evenCol k)) = x (ix2 r (oddCol k)) := by
  rw [select_apply, hM, mask_even]; exact rollLeft_even x h1 h2 hl r k

/-- … and the odd column the even one's. -/
theorem swap_odd (r : Fin n) (k : Fin 512) :
    select M (rollLeft x h1 h2 hl) (rollRight x h3 h4 hr) (ix2 r (oddCol k)) = x (ix2 r (evenCol k)) := by
  rw [select_apply, hM, mask_odd]; exact rollRight_odd x h3 h4 hr r k

end Roll

/-- On a one-row block the mask is the mask. -/
theorem mask_row (r : Fin 1) (c : Fin 1024) : k0_pay12 (ix2 r c) = k0_pay12 (ix2 (0 : Fin 1) c) := by
  rw [Subsingleton.elim r 0]

end Cert.KernelIdeal.Turn

end
-- ==== Proof.Rotate.lean ====
/-
  The kernel's arithmetic on ideal values, pair by pair. A pair (sine, cosine) is the complex number with the sine as
  its imaginary part and the cosine as its real part; the kernel's angle addition is then the product. If row `r` of the
  staged table block is the `r`-th power of a number `z k` in every pair `k`, then the turn before block `n` is the
  `512 n`-th power, and the output block adds to row `r` of `x` the power `512 n + r`.
-/
module

public import proofs.«01_k».proof.Proof.Body
public import proofs.«01_k».proof.Proof.Columns
public import Idealize.ShloMosaic.Lib.ValueIdx
public import Idealize.ShloMosaic.Lib.IdealHost
public import Idealize.ShloMosaic.PureOps.Ideal.Laws
public import Idealize.ShloMosaic.Lib.Pipeline.ValueKit.Tiles

@[expose] public section

set_option maxRecDepth 16384

noncomputable section

namespace Cert.KernelIdeal.Turn

open Idealize.ShloMosaic Idealize.ShloMosaic.ValueIdx
open Cert.KernelIdeal.Gen

/-- The row `v` holds, in pair `k`, the imaginary and the real part of `w k`. -/
def RowIs (v : FVec Ideal S1x1024 .f32) (w : Fin 512 → ℂ) : Prop :=
  ∀ k, v (ix2 (0 : Fin 1) (evenCol k)) = ((w k).im : EReal) ∧ v (ix2 (0 : Fin 1) (oddCol k)) = ((w k).re : EReal)

/-- Row `r` of the table block `pe` holds, in pair `k`, the `r`-th power of `z k`. -/
def BlockIs (pe : Vec Ideal S1x512x1024 .f32) (z : Fin 512 → ℂ) : Prop :=
  ∀ (r : Fin 512) k, pe (ix3 (0 : Fin 1) r (evenCol k)) = ((z k ^ r.val).im : EReal)
    ∧ pe (ix3 (0 : Fin 1) r (oddCol k)) = ((z k ^ r.val).re : EReal)

/-! ## One pair -/

/-- The sine of a sum, from the pairs' parts. -/
theorem im_mul (a b : ℂ) : (a.im : EReal) * b.re + a.re * b.im = ((a * b).im : EReal) := by
  rw [Complex.mul_im]; norm_cast; ring

/-- The cosine of a sum, from the pairs' parts. -/
theorem re_mul (a b : ℂ) : (a.re : EReal) * b.re - a.im * b.im = ((a * b).re : EReal) := by
  rw [Complex.mul_re]; norm_cast

/-- The word of zero. -/
theorem zero_word : (Scalar.ofBits .f32 0x00000000#32 : Ideal .f32) = 0 := Ideal.ofBits_zero_f32
/-- The word of one. -/
theorem one_word : (Scalar.ofBits .f32 0x3F800000#32 : Ideal .f32) = 1 := Ideal.ofBits_one_f32

/-! ## The pair swaps -/

section Swap

variable (v : FVec Ideal S1x1024 .f32) (u : Vec Ideal S1x1x1024 .f32) (k : Fin 512)

theorem pay14_even : k0_pay14 v (ix2 (0 : Fin 1) (evenCol k)) = v (ix2 (0 : Fin 1) (oddCol k)) :=
  swap_even v _ _ _ _ _ _ k0_pay12 mask_row 0 k
theorem pay14_odd : k0_pay14 v (ix2 (0 : Fin 1) (oddCol k)) = v (ix2 (0 : Fin 1) (evenCol k)) :=
  swap_odd v _ _ _ _ _ _ k0_pay12 mask_row 0 k

theorem pay5_apply (c : Fin 1024) : k0_pay5 u (ix2 (0 : Fin 1) c) = u (ix3 (0 : Fin 1) (0 : Fin 1) c) :=
  shapeCast_1ab_ab_apply u _ 0 c
theorem pay6_apply (c : Fin 1024) : k0_pay6 u (ix2 (0 : Fin 1) c) = u (ix3 (0 : Fin 1) (0 : Fin 1) c) := pay5_apply u c

/-- The swap of a row read off the table block is the swap of any row. -/
theorem pay7_eq : k0_pay7 k0_pay12 u = k0_pay14 (k0_pay5 u) := rfl
theorem pay8_eq : k0_pay8 k0_pay12 u = k0_pay14 (k0_pay6 u) := rfl

end Swap

/-- The swapped block's even column holds the table block's odd one … -/
theorem swapped_even (pe : Vec Ideal S1x512x1024 .f32) (r k : Fin 512) :
    swapped pe (ix2 r (evenCol k)) = pe (ix3 (0 : Fin 1) r (oddCol k)) := by
  refine (congrFun (shapeCast_self _ _) _).trans ((swap_even _ _ _ _ _ _ _ _ (fun r c => ?_) r k).trans (shapeCast_1ab_ab_apply pe _ r _))
  exact (broadcastTo_1b_ab_apply _ _ r c).trans (congrFun (shapeCast_self k0_pay12 _) _)

/-- … and its odd column the table block's even one. -/
theorem swapped_odd (pe : Vec Ideal S1x512x1024 .f32) (r k : Fin 512) :
    swapped pe (ix2 r (oddCol k)) = pe (ix3 (0 : Fin 1) r (evenCol k)) := by
  refine (congrFun (shapeCast_self _ _) _).trans ((swap_odd _ _ _ _ _ _ _ _ (fun r c => ?_) r k).trans (shapeCast_1ab_ab_apply pe _ r _))
  exact (broadcastTo_1b_ab_apply _ _ r c).trans (congrFun (shapeCast_self k0_pay12 _) _)

/-! ## The turns -/

/-- No turn is the number 1. -/
theorem rowIs_noTurn : RowIs noTurn fun _ => 1 := fun k => by
  have e : noTurn (F := Ideal) = select k0_pay12 (broadcast S1x1024 (Scalar.ofBits .f32 0x00000000#32))
      (broadcast S1x1024 (Scalar.ofBits .f32 0x3F800000#32)) := by
    unfold noTurn k0_pay4; exact shapeCast_self _ _
  rw [e]
  constructor
  · rw [select_apply, mask_even]; exact zero_word.trans (by simp)
  · rw [select_apply, mask_odd]; exact one_word.trans (by simp)

/-- The kernel's angle addition on rows, as the two columns of a pair read it. -/
def addAngles (v w : FVec Ideal S1x1024 .f32) : FVec Ideal S1x1024 .f32 :=
  select k0_pay12 (addf (mulf v (k0_pay14 w)) (mulf (k0_pay14 v) w)) (subf (mulf v w) (mulf (k0_pay14 v) (k0_pay14 w)))

/-- It is the product, pair by pair. -/
theorem rowIs_addAngles {v w : FVec Ideal S1x1024 .f32} {a b : Fin 512 → ℂ} (hv : RowIs v a) (hw : RowIs w b) :
    RowIs (addAngles v w) fun k => a k * b k := fun k => by
  constructor
  · rw [addAngles, select_apply, mask_even, select_one, addf_apply, mulf_apply, mulf_apply, pay14_even, pay14_even,
      (hv k).1, (hv k).2, (hw k).1, (hw k).2]
    exact im_mul _ _
  · rw [addAngles, select_apply, mask_odd, select_zero, subf_apply, mulf_apply, mulf_apply, pay14_odd, pay14_odd,
      (hv k).1, (hv k).2, (hw k).1, (hw k).2]
    exact re_mul _ _

/-- The advance of the turn is the angle addition. -/
theorem pay2_eq (v w : FVec Ideal S1x1024 .f32) : k0_pay2 k0_pay12 v w = addAngles w v := shapeCast_self _ _

/-- Row `o` of the table block, read at column `c`, is the table block at `(0, o, c)`. -/
theorem row_idx (o : ℕ) (ho : o < 512) (h : ∀ a, (![0, o, 0] : Fin 3 → ℕ) a + S1x1x1024.size a ≤ S1x512x1024.size a) (c : Fin 1024) :
    (Rect.unit (s := S1x512x1024) ![0, o, 0] S1x1x1024.size h).idx (ix3 (0 : Fin 1) (0 : Fin 1) c) = ix3 (0 : Fin 1) ⟨o, ho⟩ c :=
  funext fun a => Fin.ext (match a with
    | ⟨0, _⟩ => rfl
    | ⟨1, _⟩ => rfl
    | ⟨2, _⟩ => show 0 + 1 * c.val = c.val by omega)

variable {pe : Vec Ideal S1x512x1024 .f32} {z : Fin 512 → ℂ} (hpe : BlockIs pe z)
include hpe

/-- Row 1 of the table block. -/
theorem rowIs_row1 : RowIs (k0_pay5 (View.ld pe peRow1)) z := fun k => by
  have h := hpe ⟨1, by omega⟩ k
  simp only [pow_one] at h
  exact ⟨(pay5_apply _ _).trans ((congrArg pe (row_idx 1 (by omega) _ _)).trans h.1),
    (pay5_apply _ _).trans ((congrArg pe (row_idx 1 (by omega) _ _)).trans h.2)⟩

/-- The last row of the table block. -/
theorem rowIs_row511 : RowIs (k0_pay5 (View.ld pe peRow511)) fun k => z k ^ 511 := fun k =>
  have h := hpe ⟨511, by omega⟩ k
  ⟨(pay5_apply _ _).trans ((congrArg pe (row_idx 511 (by omega) _ _)).trans h.1),
    (pay5_apply _ _).trans ((congrArg pe (row_idx 511 (by omega) _ _)).trans h.2)⟩

/-- The turn of one block is the 512th power. -/
theorem rowIs_blockTurn : RowIs (blockTurn pe) fun k => z k ^ 512 := by
  have e : blockTurn pe = addAngles (k0_pay5 (View.ld pe peRow1)) (k0_pay5 (View.ld pe peRow511)) := by
    unfold blockTurn k0_pay13; exact shapeCast_self _ _
  rw [e]
  have h := rowIs_addAngles (rowIs_row1 hpe) (rowIs_row511 hpe)
  have e' : (fun k => z k * z k ^ 511) = fun k => z k ^ 512 := funext fun k => (pow_succ' (z k) 511).symm
  rwa [e'] at h

/-- The turn before block `n` is the `512 n`-th power. -/
theorem rowIs_turn : ∀ n : ℕ, RowIs (turn pe n) fun k => z k ^ (512 * n)
  | 0 => by simpa [turn] using rowIs_noTurn
  | n + 1 => by
    have h := rowIs_addAngles (rowIs_blockTurn hpe) (rowIs_turn n)
    rw [turn, pay2_eq]
    have e : (fun k => z k ^ 512 * z k ^ (512 * n)) = fun k => z k ^ (512 * (n + 1)) :=
      funext fun k => by rw [← pow_add]; congr 1; ring
    rwa [e] at h

/-! ## The output block -/

omit hpe in
/-- What a step adds to row `r` of `x` in column `c`: the table block and the swapped one, each by its own factor. -/
theorem outBlock_apply (pe : Vec Ideal S1x512x1024 .f32) (rot : FVec Ideal S1x1024 .f32) (x : Vec Ideal S4x512x1024 .f32)
    (b : Fin 4) (r : Fin 512) (c : Fin 1024) :
    outBlock pe rot x (ix3 b r c) = x (ix3 b r c) + (k0_pay15 rot pe (ix2 r c) + k0_pay16 rot (swapped pe) (ix2 r c)) := by
  refine congrArg (x (ix3 b r c) + ·) ?_
  refine (broadcastTo_apply _ _ (ix3 b r c) (ix3 (0 : Fin 1) r c) fun a => ?_).trans (shapeCast_ab_1ab_apply _ _ 0 r c)
  match a with
  | ⟨0, _⟩ => rfl
  | ⟨1, _⟩ => rfl
  | ⟨2, _⟩ => rfl

omit hpe in
/-- The table block's part. -/
theorem pay15_apply (pe : Vec Ideal S1x512x1024 .f32) (rot : FVec Ideal S1x1024 .f32) (r : Fin 512) (c : Fin 1024) :
    k0_pay15 rot pe (ix2 r c) = select k0_pay12 (k0_pay14 rot) rot (ix2 (0 : Fin 1) c) * pe (ix3 (0 : Fin 1) r c) :=
  congrArg₂ (fun a b : EReal => a * b) (broadcastTo_1b_ab_apply _ _ r c) (shapeCast_1ab_ab_apply pe _ r c)

omit hpe in
/-- The swapped block's part. -/
theorem pay16_apply (sw : FVec Ideal S512x1024 .f32) (rot : FVec Ideal S1x1024 .f32) (r : Fin 512) (c : Fin 1024) :
    k0_pay16 rot sw (ix2 r c)
      = select k0_pay12 rot (subf (broadcast S1x1024 (Scalar.ofBits .f32 0x00000000#32)) (k0_pay14 rot)) (ix2 (0 : Fin 1) c)
        * sw (ix2 r c) :=
  congrArg (fun a : EReal => a * sw (ix2 r c)) (broadcastTo_1b_ab_apply _ _ r c)

variable {rot : FVec Ideal S1x1024 .f32} {w : Fin 512 → ℂ} (hrot : RowIs rot w)
  (x : Vec Ideal S4x512x1024 .f32) (b : Fin 4) (r k : Fin 512)
include hrot

/-- Turned by `w`, row `r` adds the sine of `w · z ^ r` in an even column … -/
theorem outBlock_even : outBlock pe rot x (ix3 b r (evenCol k)) = x (ix3 b r (evenCol k)) + ((w k * z k ^ r.val).im : EReal) := by
  rw [outBlock_apply, pay15_apply, pay16_apply, select_apply, select_apply, mask_even, select_one, select_one, pay14_even,
    swapped_even, (hrot k).1, (hrot k).2, (hpe r k).1, (hpe r k).2, ← im_mul, add_comm (_ * _ : EReal) (_ * _)]

/-- … and its cosine in an odd one. -/
theorem outBlock_odd : outBlock pe rot x (ix3 b r (oddCol k)) = x (ix3 b r (oddCol k)) + ((w k * z k ^ r.val).re : EReal) := by
  rw [outBlock_apply, pay15_apply, pay16_apply, select_apply, select_apply, mask_odd, select_zero, select_zero, subf_apply,
    broadcast_apply, zero_word, pay14_odd, swapped_odd, (hrot k).1, (hrot k).2, (hpe r k).1, (hpe r k).2, ← re_mul, zero_sub,
    neg_mul, ← sub_eq_add_neg]

end Cert.KernelIdeal.Turn

end
-- ==== Proof.Tables.lean ====
/-
  What the two preconditions say of the table. Each gives, for every pair `k`, a complex number `z k` whose `n`-th power
  row `n` of the table holds: the sine column its imaginary part, the cosine column its real part. Under `steady_turns`
  the number is row 1 of the table, and the recurrence the precondition states is the power's; under `sinusoids` it is
  `exp (i w)` for the pair's frequency `w`, and de Moivre's formula gives the powers.
-/
module

public import proofs.«01_k».proof.Pre_steady_turns
public import proofs.«01_k».proof.Pre_sinusoids
public import proofs.«01_k».proof.Proof.Gen.Pre_steady_turns
public import proofs.«01_k».proof.Proof.Gen.Pre_sinusoids
public import proofs.«01_k».proof.Proof.Rotate
public import Idealize.ShloMosaic.Lib.IdealHost
public import Idealize.ShloMosaic.Lib.WordCmp
public import Idealize.ShloMosaic.Lib.Pipeline.Value
public import Idealize.ShloMosaic.Lib.Pointwise.Select
public import Idealize.ShloMosaic.PureOps.Ideal.Laws

@[expose] public section

set_option maxRecDepth 16384

noncomputable section

namespace Cert.Tables

open Idealize.ShloMosaic hiding ix1 ix2 ix3
open Idealize.ShloMosaic.ValueIdx
open Cert.KernelIdeal.Turn (evenCol oddCol im_mul re_mul)

/-- Row `n` of the table holds, in pair `k`, the `n`-th power of `z k`. -/
def Powers (pe : (⟨3, ![1, 8192, 1024]⟩ : Shape).Idx → EReal) (z : Fin 512 → ℂ) : Prop :=
  ∀ (n : Fin 8192) k, pe (ix3 (0 : Fin 1) n (evenCol k)) = ((z k ^ n.val).im : EReal)
    ∧ pe (ix3 (0 : Fin 1) n (oddCol k)) = ((z k ^ n.val).re : EReal)

/-! ## The two halves of the table -/

section Halves

variable (pe : (⟨3, ![1, 8192, 1024]⟩ : Shape).Idx → EReal)

/-- The even columns, cut out, are the sines. -/
theorem sines_apply (h : (⟨3, ![1, 8192, 1024]⟩ : Shape).SlicesBy ![0, 0, 0] ![1, 1, 2] ⟨3, ![1, 8192, 512]⟩)
    (h' : (⟨3, ![1, 8192, 512]⟩ : Shape).ShapeCasts ⟨2, ![8192, 512]⟩) (n : Fin 8192) (k : Fin 512) :
    shapeCast ⟨2, ![8192, 512]⟩ (Host.slice ⟨3, ![1, 8192, 512]⟩ ![0, 0, 0] ![1, 1, 2] pe h) h' (ix2 n k)
      = pe (ix3 (0 : Fin 1) n (evenCol k)) :=
  (shapeCast_1ab_ab_apply _ h' n k).trans (congrArg pe (funext fun a => Fin.ext (match a with
    | ⟨0, _⟩ => rfl
    | ⟨1, _⟩ => show 0 + 1 * n.val = n.val by omega
    | ⟨2, _⟩ => show 0 + 2 * k.val = 2 * k.val by omega)))

/-- The odd columns, cut out, are the cosines. -/
theorem cosines_apply (h : (⟨3, ![1, 8192, 1024]⟩ : Shape).SlicesBy ![0, 0, 1] ![1, 1, 2] ⟨3, ![1, 8192, 512]⟩)
    (h' : (⟨3, ![1, 8192, 512]⟩ : Shape).ShapeCasts ⟨2, ![8192, 512]⟩) (n : Fin 8192) (k : Fin 512) :
    shapeCast ⟨2, ![8192, 512]⟩ (Host.slice ⟨3, ![1, 8192, 512]⟩ ![0, 0, 1] ![1, 1, 2] pe h) h' (ix2 n k)
      = pe (ix3 (0 : Fin 1) n (oddCol k)) :=
  (shapeCast_1ab_ab_apply _ h' n k).trans (congrArg pe (funext fun a => Fin.ext (match a with
    | ⟨0, _⟩ => rfl
    | ⟨1, _⟩ => show 0 + 1 * n.val = n.val by omega
    | ⟨2, _⟩ => show 1 + 2 * k.val = 2 * k.val + 1 by omega)))

end Halves

/-- The host's magnitude at an index. -/
theorem absf_apply {s : Shape} (v : FVec Ideal s .f32) (i : s.Idx) : Host.absf v i = max (v i : EReal) (-(v i : EReal)) := rfl

/-- The host's sine at an index. -/
theorem sin_apply {s : Shape} (v : FVec Ideal s .f32) (i : s.Idx) : Host.sin v i = Ideal.sin (v i) := rfl

/-- The host's cosine at an index. -/
theorem cos_apply {s : Shape} (v : FVec Ideal s .f32) (i : s.Idx) : Host.cos v i = Ideal.cos (v i) := rfl

/-- The word of infinity. -/
theorem inf_word : Ideal.ofBits .f32 0x7F800000#32 = ⊤ := by simp [Ideal.ofBits, Ideal.ieee]

/-- A value below infinity in magnitude is a real number. -/
theorem real_of_abs_lt {a : EReal} (h : max a (-a) < ⊤) : ∃ r : ℝ, a = r := by
  induction a using EReal.rec with
  | bot => simp at h
  | top => simp at h
  | coe r => exact ⟨r, rfl⟩

/-- Where an equality is answered yes everywhere, the two sides agree everywhere. -/
theorem eq_of_cmp {s : Shape} {a b : FVec Ideal s .f32} (h : cmpf .oeq a b = fun _ => 1#1) (i : s.Idx) : a i = b i :=
  (Ideal.cmp_oeq_eq_one (a i) (b i)).mp (congrFun h i)

/-- Where a less-than is answered yes everywhere, it holds everywhere. -/
theorem lt_of_cmp {s : Shape} {a b : FVec Ideal s .f32} (h : cmpf .olt a b = fun _ => 1#1) (i : s.Idx) :
    (a i : EReal) < b i :=
  (Ideal.cmp_olt_eq_one (a i) (b i)).mp (congrFun h i)

/-- A row, repeated down the rows, at an index. -/
theorem repeat_apply {m : Nat} (h : (⟨2, ![1, 512]⟩ : Shape).BroadcastsInDim ⟨2, ![m, 512]⟩ ![0, 1])
    (v : (⟨2, ![1, 512]⟩ : Shape).Idx → EReal) (n : Fin m) (k : Fin 512) :
    broadcastInDim ⟨2, ![m, 512]⟩ ![0, 1] h v (ix2 n k) = v (ix2 (0 : Fin 1) k) :=
  broadcastInDim_apply _ _ _ _ _ fun a => match a with
    | ⟨0, _⟩ => rfl
    | ⟨1, _⟩ => rfl

/-! ## `steady_turns` -/

section Steady

open Cert.Pre_steady_turns Cert.Pre_steady_turns.Facts

variable (x : FVec Ideal S4x8192x1024 .f32) (pe : FVec Ideal S1x8192x1024 .f32)

/-- Row 1 holds real numbers: the sines. -/
theorem steady_sine (h : (fn (F := Ideal) x pe).1 = fun _ => 1#1) (k : Fin 512) :
    ∃ r : ℝ, pe (ix3 (0 : Fin 1) (1 : Fin 8192) (evenCol k)) = r := by
  have e := lt_of_cmp h (ix2 (0 : Fin 1) k)
  beta_reduce at e
  rw [broadcastInDim_scalar_apply, absf_apply, slice2_axis0_apply 1 _ _ _ k (1 : Fin 8192) rfl, sines_apply] at e
  exact real_of_abs_lt (e.trans_eq inf_word)

/-- Row 1 holds real numbers: the cosines. -/
theorem steady_cosine (h : (fn (F := Ideal) x pe).2.1 = fun _ => 1#1) (k : Fin 512) :
    ∃ r : ℝ, pe (ix3 (0 : Fin 1) (1 : Fin 8192) (oddCol k)) = r := by
  have e := lt_of_cmp h (ix2 (0 : Fin 1) k)
  beta_reduce at e
  rw [broadcastInDim_scalar_apply, absf_apply, slice2_axis0_apply 1 _ _ _ k (1 : Fin 8192) rfl, cosines_apply] at e
  exact real_of_abs_lt (e.trans_eq inf_word)

/-- Row 0 holds the sine zero. -/
theorem steady_zero (h : (fn (F := Ideal) x pe).2.2.1 = fun _ => 1#1) (k : Fin 512) :
    pe (ix3 (0 : Fin 1) (0 : Fin 8192) (evenCol k)) = 0 := by
  have e := eq_of_cmp h (ix1 k)
  beta_reduce at e
  rw [broadcastInDim_scalar_apply, shapeCast_1a_a_apply, slice2_axis0_apply 0 _ _ _ k (0 : Fin 8192) rfl, sines_apply] at e
  exact e.trans Ideal.ofBits_zero_f32

/-- Row 0 holds the cosine one. -/
theorem steady_one (h : (fn (F := Ideal) x pe).2.2.2.1 = fun _ => 1#1) (k : Fin 512) :
    pe (ix3 (0 : Fin 1) (0 : Fin 8192) (oddCol k)) = 1 := by
  have e := eq_of_cmp h (ix1 k)
  beta_reduce at e
  rw [broadcastInDim_scalar_apply, shapeCast_1a_a_apply, slice2_axis0_apply 0 _ _ _ k (0 : Fin 8192) rfl, cosines_apply] at e
  exact e.trans Ideal.ofBits_one_f32

/-- The next row's sine. -/
theorem steady_next_sine (h : (fn (F := Ideal) x pe).2.2.2.2.1 = fun _ => 1#1) (n : Nat) (hn : n + 1 < 8192) (k : Fin 512) :
    pe (ix3 (0 : Fin 1) ⟨n + 1, hn⟩ (evenCol k))
      = pe (ix3 (0 : Fin 1) ⟨n, by omega⟩ (evenCol k)) * pe (ix3 (0 : Fin 1) (1 : Fin 8192) (oddCol k))
        + pe (ix3 (0 : Fin 1) ⟨n, by omega⟩ (oddCol k)) * pe (ix3 (0 : Fin 1) (1 : Fin 8192) (evenCol k)) := by
  have e := eq_of_cmp h (ix2 (⟨n, by omega⟩ : Fin 8191) k)
  beta_reduce at e
  rw [addf_apply, mulf_apply, mulf_apply, repeat_apply, repeat_apply,
    slice2_axis0_apply 1 _ _ _ k ⟨n + 1, hn⟩ (Nat.add_comm n 1),
    slice2_axis0_apply 0 _ _ _ k ⟨n, by omega⟩ (Nat.zero_add n).symm,
    slice2_axis0_apply 0 _ _ _ k ⟨n, by omega⟩ (Nat.zero_add n).symm,
    slice2_axis0_apply 1 _ _ _ k (1 : Fin 8192) rfl, slice2_axis0_apply 1 _ _ _ k (1 : Fin 8192) rfl,
    sines_apply, sines_apply, sines_apply, cosines_apply, cosines_apply] at e
  exact e

/-- The next row's cosine. -/
theorem steady_next_cosine (h : (fn (F := Ideal) x pe).2.2.2.2.2 = fun _ => 1#1) (n : Nat) (hn : n + 1 < 8192) (k : Fin 512) :
    pe (ix3 (0 : Fin 1) ⟨n + 1, hn⟩ (oddCol k))
      = pe (ix3 (0 : Fin 1) ⟨n, by omega⟩ (oddCol k)) * pe (ix3 (0 : Fin 1) (1 : Fin 8192) (oddCol k))
        - pe (ix3 (0 : Fin 1) ⟨n, by omega⟩ (evenCol k)) * pe (ix3 (0 : Fin 1) (1 : Fin 8192) (evenCol k)) := by
  have e := eq_of_cmp h (ix2 (⟨n, by omega⟩ : Fin 8191) k)
  beta_reduce at e
  rw [subf_apply, mulf_apply, mulf_apply, repeat_apply, repeat_apply,
    slice2_axis0_apply 1 _ _ _ k ⟨n + 1, hn⟩ (Nat.add_comm n 1),
    slice2_axis0_apply 0 _ _ _ k ⟨n, by omega⟩ (Nat.zero_add n).symm,
    slice2_axis0_apply 0 _ _ _ k ⟨n, by omega⟩ (Nat.zero_add n).symm,
    slice2_axis0_apply 1 _ _ _ k (1 : Fin 8192) rfl, slice2_axis0_apply 1 _ _ _ k (1 : Fin 8192) rfl,
    sines_apply, sines_apply, cosines_apply, cosines_apply, cosines_apply] at e
  exact e

/-- Under `steady_turns` the table holds the powers of its row 1. -/
theorem steady_powers
    (h : (fn (F := Ideal) x pe).1 = (fun _ => 1#1) ∧ (fn (F := Ideal) x pe).2.1 = (fun _ => 1#1)
      ∧ (fn (F := Ideal) x pe).2.2.1 = (fun _ => 1#1) ∧ (fn (F := Ideal) x pe).2.2.2.1 = (fun _ => 1#1)
      ∧ (fn (F := Ideal) x pe).2.2.2.2.1 = (fun _ => 1#1) ∧ (fn (F := Ideal) x pe).2.2.2.2.2 = (fun _ => 1#1)) :
    ∃ z, Powers pe z := by
  obtain ⟨h1, h2, h3, h4, h5, h6⟩ := h
  choose s hs using steady_sine x pe h1
  choose c hc using steady_cosine x pe h2
  let z : Fin 512 → ℂ := fun k => ⟨c k, s k⟩
  have hs' : ∀ k, pe (ix3 (0 : Fin 1) (1 : Fin 8192) (evenCol k)) = ((z k).im : EReal) := hs
  have hc' : ∀ k, pe (ix3 (0 : Fin 1) (1 : Fin 8192) (oddCol k)) = ((z k).re : EReal) := hc
  suffices H : ∀ (n : Nat) (hn : n < 8192) k, pe (ix3 (0 : Fin 1) ⟨n, hn⟩ (evenCol k)) = ((z k ^ n).im : EReal)
      ∧ pe (ix3 (0 : Fin 1) ⟨n, hn⟩ (oddCol k)) = ((z k ^ n).re : EReal) from ⟨z, fun n k => H n.val n.isLt k⟩
  intro n
  induction n with
  | zero =>
    intro hn k
    refine ⟨(steady_zero x pe h3 k).trans ?_, (steady_one x pe h4 k).trans ?_⟩ <;> simp
  | succ n ih =>
    intro hn k
    obtain ⟨i, j⟩ := ih (by omega) k
    rw [steady_next_sine x pe h5 n hn k, steady_next_cosine x pe h6 n hn k, i, j, hs' k, hc' k, pow_succ]
    exact ⟨im_mul _ _, re_mul _ _⟩

end Steady

/-! ## `sinusoids` -/

section Sinusoids

open Cert.Pre_sinusoids Cert.Pre_sinusoids.Facts

/-- The word of the frequencies' exponent names a real number. -/
theorem rate_word : ∃ r : ℝ, Ideal.ofBits .f32 0xBC135D8E#32 = (r : EReal) := by
  simp only [Ideal.ofBits, Ideal.ieee]
  norm_num [-EReal.coe_mul]
  exact ⟨_, (EReal.coe_neg _).symm⟩

/-- The number of the unit circle at angle `w`, raised to a power: the angle is multiplied. -/
theorem circle_pow (w : ℝ) (n : Nat) : ((⟨Real.cos w, Real.sin w⟩ : ℂ) ^ n) = ⟨Real.cos (n * w), Real.sin (n * w)⟩ := by
  induction n with
  | zero => simp [Complex.ext_iff]
  | succ n ih =>
    rw [pow_succ, ih]
    have : ((n + 1 : ℕ) : ℝ) * w = n * w + w := by push_cast; ring
    rw [this, Real.cos_add, Real.sin_add]
    apply Complex.ext <;> simp [Complex.mul_re, Complex.mul_im]; ring

/-- The position of row `n`, a number. -/
theorem position_apply (n : Fin 8192) :
    (sitofp .f32 (iotaInDim S8192 32 0) : FVec Ideal S8192 .f32) (ix1 n) = ((n.val : ℝ) : EReal) := by
  show (((BitVec.ofNat 32 n.val).toInt : ℝ) : EReal) = _
  rw [WordCmp.toInt_ofNat_of_lt (by have := n.isLt; omega)]
  norm_cast

/-- The frequency of a pair, a number: the exponential of a real number. -/
theorem frequency_apply (a : IVec S512 32) (h : S_.BroadcastsInDim S512 ![]) (k : Fin 512) :
    ∃ w : ℝ, (Host.exp (mulf (sitofp .f32 a) (broadcastInDim S512 ![] h (constant S_ .f32 0xBC135D8E#32)))
      : FVec Ideal S512 .f32) (ix1 k) = (w : EReal) := by
  obtain ⟨r, hr⟩ := rate_word
  refine ⟨Real.exp ((a (ix1 k)).toInt * r), ?_⟩
  show Ideal.exp ((((a (ix1 k)).toInt : ℝ) : EReal) * Ideal.ofBits .f32 0xBC135D8E#32) = _
  rw [hr, ← EReal.coe_mul]
  rfl

/-- The angle of row `n` in a pair: the position times the frequency. -/
theorem angle_apply (p : FVec Ideal S8192 .f32) (f : FVec Ideal S512 .f32)
    (h1 : S8192.BroadcastsInDim S8192x1 ![0]) (h2 : S512.BroadcastsInDim S1x512 ![1])
    (h3 : S8192x1.BroadcastsInDim S8192x512 ![0, 1]) (h4 : S1x512.BroadcastsInDim S8192x512 ![0, 1])
    (n : Fin 8192) (k : Fin 512) :
    mulf (broadcastInDim S8192x512 ![0, 1] h3 (broadcastInDim S8192x1 ![0] h1 p))
      (broadcastInDim S8192x512 ![0, 1] h4 (broadcastInDim S1x512 ![1] h2 f)) (ix2 n k)
      = (p (ix1 n) : EReal) * f (ix1 k) := by
  rw [mulf_apply, repeat_apply,
    broadcastInDim_apply ![0, 1] h3 _ (ix2 n k) (ix2 n (0 : Fin 1)) (fun a => match a with
      | ⟨0, _⟩ => rfl
      | ⟨1, _⟩ => rfl),
    broadcastInDim_apply ![0] h1 _ (ix2 n (0 : Fin 1)) (ix1 n) (fun a => match a with | ⟨0, _⟩ => rfl),
    broadcastInDim_apply ![1] h2 _ (ix2 (0 : Fin 1) k) (ix1 k) (fun a => match a with | ⟨0, _⟩ => rfl)]

variable (x : FVec Ideal S4x8192x1024 .f32) (pe : FVec Ideal S1x8192x1024 .f32)

/-- Under `sinusoids` the table holds the powers of the unit-circle numbers at the pairs' frequencies. -/
theorem sinusoids_powers (h : (fn (F := Ideal) x pe).1 = (fun _ => 1#1) ∧ (fn (F := Ideal) x pe).2 = (fun _ => 1#1)) :
    ∃ z, Powers pe z := by
  choose w hw using frequency_apply
    (addi (broadcastInDim S512 ![] bcast_S_S512 (constantI S_ 32 0#32))
      (muli (broadcastInDim S512 ![] bcast_S_S512 (constantI S_ 32 2#32)) (iotaInDim S512 32 0))) bcast_S_S512
  refine ⟨fun k => ⟨Real.cos (w k), Real.sin (w k)⟩, fun n k => ?_⟩
  have hs := eq_of_cmp h.1 (ix2 n k)
  have hc := eq_of_cmp h.2 (ix2 n k)
  beta_reduce at hs hc
  rw [sines_apply, sin_apply, angle_apply, position_apply, hw, ← EReal.coe_mul] at hs
  rw [cosines_apply, cos_apply, angle_apply, position_apply, hw, ← EReal.coe_mul] at hc
  rw [circle_pow]
  exact ⟨hs, hc⟩

end Sinusoids

end Cert.Tables

end
-- ==== Proof.Equal.lean ====
/-
  The kernel's result is the reference's. Where row `n` of the table holds, in every pair, the `n`-th power of one
  number, the block the kernel stages holds the first 512 powers, and the power the kernel adds to row `r` of block `t`
  is `512 t + r`: the table's own entry in that row.
-/
module

public import proofs.«01_k».proof.Proof.Result
public import proofs.«01_k».proof.Proof.Tables

@[expose] public section

set_option maxRecDepth 16384

noncomputable section

namespace Cert.Tables

open Idealize.ShloMosaic hiding ix1 ix2 ix3 eq_ix3 addf_apply
open Idealize.ShloMosaic.ValueIdx Cert.KernelIdeal Cert.KernelIdeal.Turn

/-- The table, repeated over the batches, at an index. -/
theorem batches_apply (h : (⟨3, ![1, 8192, 1024]⟩ : Shape).BroadcastsInDim ⟨3, ![4, 8192, 1024]⟩ ![0, 1, 2])
    (pe : (⟨3, ![1, 8192, 1024]⟩ : Shape).Idx → EReal) (b : Fin 4) (n : Fin 8192) (col : Fin 1024) :
    broadcastInDim ⟨3, ![4, 8192, 1024]⟩ ![0, 1, 2] h pe (ix3 b n col) = pe (ix3 (0 : Fin 1) n col) :=
  broadcastInDim_apply _ _ _ _ _ fun a => match a with
    | ⟨0, _⟩ => rfl
    | ⟨1, _⟩ => rfl
    | ⟨2, _⟩ => rfl

variable (m : (ℓ : Loc nD τ sig) → Buf (Elt Ideal) ℓ) (c : Dev nD)

/-- The staged block of a table of powers holds the first powers. -/
theorem block_powers {z : Fin 512 → ℂ} (h : Powers (m ((c.tc : Thread nD τ).loc main_arg1)) z) : BlockIs (peBlk m c) z :=
  fun r k => ⟨(peBlk_apply m c r _).trans (h _ k).1, (peBlk_apply m c r _).trans (h _ k).2⟩

/-- On a table of powers the kernel's result is the sum of `x` and the table. -/
theorem result_eq {z : Fin 512 → ℂ} (h : Powers (m ((c.tc : Thread nD τ).loc main_arg1)) z)
    (hb : (⟨3, ![1, 8192, 1024]⟩ : Shape).BroadcastsInDim ⟨3, ![4, 8192, 1024]⟩ ![0, 1, 2]) :
    (show FVec Ideal ⟨3, ![4, 8192, 1024]⟩ .f32 from result m c)
      = addf (F := Ideal) (s := ⟨3, ![4, 8192, 1024]⟩) (φ := .f32) (m ((c.tc : Thread nD τ).loc main_arg0))
          (broadcastInDim ⟨3, ![4, 8192, 1024]⟩ ![0, 1, 2] hb (m ((c.tc : Thread nD τ).loc main_arg1))) := by
  have hpe := block_powers m c h
  funext j
  obtain ⟨b, n, col, rfl⟩ : ∃ (b : Fin 4) (n : Fin 8192) (col : Fin 1024), j = ix3 b n col := ⟨_, _, _, eq_ix3 j⟩
  obtain ⟨t, r, rfl⟩ := row_cases n
  have hrot := rowIs_turn hpe t.val
  rw [addf_apply, batches_apply, result_apply]
  obtain ⟨k, rfl⟩ | ⟨k, rfl⟩ := col_cases col
  · rw [outBlock_even hpe hrot, xBlk_apply, (h _ k).1, ← pow_add]
    rfl
  · rw [outBlock_odd hpe hrot, xBlk_apply, (h _ k).2, ← pow_add]
    rfl

end Cert.Tables

end
-- ==== Proof.lean ====
/-
  The certificate's claims, assembled. `Proof/Steps.lean` runs the kernel: it terminates, its arguments end unchanged
  and its semaphore counters end at zero, at any float semantics. `Proof/Same.lean` carries this over to the kernel as
  compiled. `Proof/Tables.lean` reads each precondition as a table of powers, and `Proof/Equal.lean` shows that on such a
  table the kernel's result is `x` plus the table, which is what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_steady_turns
public import proofs.«01_k».proof.Proof.Gen.Pre_sinusoids
public import proofs.«01_k».proof.Proof.Same
public import proofs.«01_k».proof.Proof.Equal
public import Idealize.ShloMosaic.Lib.Quiescent

@[expose] public section

noncomputable section

namespace Cert.Proof

open Idealize.ShloMosaic Idealize.SL.Sem

/-- The kernel as compiled keeps its frame. -/
theorem frame_kernel : Cert.quiescent_Kernel := fun m g _ => Cert.Kernel.Same.frame (F := Bits) m g

/-- The idealized kernel keeps its frame. -/
theorem frame_ideal : Cert.quiescent_KernelIdeal := fun m g _ => Cert.KernelIdeal.Turn.frame (F := Ideal) m g

/-- The reference keeps its frame: it declares no semaphore, so no counter can be off zero. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- On tables of powers the idealized kernel and the reference end with equal results. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpow : ∀ c : Dev Cert.KernelIdeal.nD, ∃ z, Cert.Tables.Powers
      (m ((c.tc : Thread Cert.KernelIdeal.nD Cert.KernelIdeal.τ).loc Cert.KernelIdeal.main_arg1)) z)
    (hargs : ∀ c : Dev Cert.KernelIdeal.nD,
      m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v1)
          = Cert.KernelIdeal.Turn.result m c
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) := by
  refine (θ_run Cert.ReferenceIdeal.defs _ _).mono (fun r h c => ⟨(h c).1.trans ?_, (h c).2⟩)
    (Cert.ReferenceIdeal.Value.run (F := Ideal) m' g')
  obtain ⟨z, hz⟩ := hpow c
  rw [(hargs c).1, (hargs c).2]
  exact (Cert.Tables.result_eq m c hz _).symm

/-- Equal results under `steady_turns`. -/
theorem equal_steady_turns : Cert.algebraic_KernelIdeal_ReferenceIdeal_pre_steady_turns := fun m g m' g' hpre hargs =>
  ⟨Cert.KernelIdeal.Turn.result m, Cert.KernelIdeal.Turn.run_result m g,
    agree m m' g' (fun c => Cert.Tables.steady_powers _ _ (hpre c)) hargs⟩

/-- Equal results under `sinusoids`. -/
theorem equal_sinusoids : Cert.algebraic_KernelIdeal_ReferenceIdeal_pre_sinusoids := fun m g m' g' hpre hargs =>
  ⟨Cert.KernelIdeal.Turn.result m, Cert.KernelIdeal.Turn.run_result m g,
    agree m m' g' (fun c => Cert.Tables.sinusoids_powers _ _ (hpre c)) hargs⟩

/-- Everything claimed. -/
theorem claim : Cert.Claim :=
  ⟨Cert.Kernel.Gen.facts, Cert.KernelIdeal.Gen.facts, Cert.ReferenceIdeal.Gen.facts, Cert.Pre_steady_turns.Gen.facts,
    Cert.Pre_sinusoids.Gen.facts, frame_kernel, frame_ideal, fun m g _ => frame_ideal m g trivial,
    fun m g _ => frame_ideal m g trivial, frame_reference, fun m g _ => frame_reference m g trivial,
    fun m g _ => frame_reference m g trivial, trivial, equal_steady_turns, equal_sinusoids⟩

end Cert.Proof

end
